-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x8192x64 : Shape := ⟨3, ![32, 8192, 64]⟩
abbrev S_ : Shape := ⟨0, ![]⟩

class Facts : Prop where
  bcast_S_S32x8192x64 : S_.BroadcastsInDim S32x8192x64 (![] : Fin 0 → Fin S32x8192x64.rank)

variable [Facts]

def fn {F : FTy → Type} [FloatOps F] (main_arg0 : FVec F S32x8192x64 .f32) : IVec S32x8192x64 1 :=
  let main_v0 : FVec F S32x8192x64 .f32 := Host.absf main_arg0
  let main_cst : FVec F S_ .f32 := constant S_ .f32 0x7F800000#32
  let main_v1 : FVec F S32x8192x64 .f32 := broadcastInDim S32x8192x64 ![] bcast_S_S32x8192x64 main_cst
  let main_v2 : IVec S32x8192x64 1 := cmpf .olt main_v0 main_v1
  main_v2
-- ==== Kernel.lean ====
abbrev S32x8192x64 : Shape := ⟨3, ![32, 8192, 64]⟩
abbrev S64x64 : Shape := ⟨2, ![64, 64]⟩
abbrev S_ : Shape := ⟨0, ![]⟩
abbrev S64x128 : Shape := ⟨2, ![64, 128]⟩
abbrev S128x128 : Shape := ⟨2, ![128, 128]⟩
abbrev S128x64 : Shape := ⟨2, ![128, 64]⟩
abbrev S128x256 : Shape := ⟨2, ![128, 256]⟩
abbrev S256x256 : Shape := ⟨2, ![256, 256]⟩
abbrev S32x64x128x64 : Shape := ⟨4, ![32, 64, 128, 64]⟩
abbrev S32x64x64x128 : Shape := ⟨4, ![32, 64, 64, 128]⟩
abbrev S1x64x64x128 : Shape := ⟨4, ![1, 64, 64, 128]⟩
abbrev S64x64x128 : Shape := ⟨3, ![64, 64, 128]⟩
abbrev S64x8192 : Shape := ⟨2, ![64, 8192]⟩
abbrev S128x8192 : Shape := ⟨2, ![128, 8192]⟩
abbrev S64x1x128 : Shape := ⟨3, ![64, 1, 128]⟩
abbrev S4096x128 : Shape := ⟨2, ![4096, 128]⟩
abbrev S4096x256 : Shape := ⟨2, ![4096, 256]⟩
abbrev S4096x64 : Shape := ⟨2, ![4096, 64]⟩
abbrev S64x64x64 : Shape := ⟨3, ![64, 64, 64]⟩
abbrev S64x1 : Shape := ⟨2, ![64, 1]⟩
abbrev S1x64x1 : Shape := ⟨3, ![1, 64, 1]⟩
abbrev S1x64x64 : Shape := ⟨3, ![1, 64, 64]⟩
abbrev S1x64 : Shape := ⟨2, ![1, 64]⟩

abbrev nBuf : Space → Nat
  | .hbm => 83
  | .vmem => 14
  | .smem => 0
  | _ => 0

abbrev bufTy : (tb : Table) → Fin (tcTables nBuf tb) → BufTy
  | .hbm, ⟨0, _⟩ => ⟨S32x8192x64, .f32⟩
  | .hbm, ⟨1, _⟩ => ⟨S64x64, .i32⟩
  | .hbm, ⟨2, _⟩ => ⟨S64x64, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S64x64, .i32⟩
  | .hbm, ⟨8, _⟩ => ⟨S_, .i32⟩
  | .hbm, ⟨9, _⟩ => ⟨S64x64, .i32⟩
  | .hbm, ⟨10, _⟩ => ⟨S64x64, .i32⟩
  | .hbm, ⟨11, _⟩ => ⟨S64x64, .f32⟩
  | .hbm, ⟨12, _⟩ => ⟨S_, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x128, .i32⟩
  | .hbm, ⟨23, _⟩ => ⟨S64x128, .i32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S64x128, .i32⟩
  | .hbm, ⟨29, _⟩ => ⟨S_, .i32⟩
  | .hbm, ⟨30, _⟩ => ⟨S64x128, .i32⟩
  | .hbm, ⟨31, _⟩ => ⟨S64x128, .i32⟩
  | .hbm, ⟨32, _⟩ => ⟨S64x128, .f32⟩
  | .hbm, ⟨33, _⟩ => ⟨S_, .f32⟩
  | .hbm, ⟨34, _⟩ => ⟨S64x128, .f32⟩
  | .hbm, ⟨35, _⟩ => ⟨S64x128, .f32⟩
  | .hbm, ⟨36, _⟩ => ⟨S64x128, .f32⟩
  | .hbm, ⟨37, _⟩ => ⟨S64x128, .f32⟩
  | .hbm, ⟨38, _⟩ => ⟨S64x128, .f32⟩
  | .hbm, ⟨39, _⟩ => ⟨S64x128, .f32⟩
  | .hbm, ⟨40, _⟩ => ⟨S64x128, .f32⟩
  | .hbm, ⟨41, _⟩ => ⟨S64x128, .f32⟩
  | .hbm, ⟨42, _⟩ => ⟨S64x128, .f32⟩
  | .hbm, ⟨43, _⟩ => ⟨S128x128, .i32⟩
  | .hbm, ⟨44, _⟩ => ⟨S128x128, .i32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S128x128, .i32⟩
  | .hbm, ⟨50, _⟩ => ⟨S_, .i32⟩
  | .hbm, ⟨51, _⟩ => ⟨S128x128, .i32⟩
  | .hbm, ⟨52, _⟩ => ⟨S128x128, .i32⟩
  | .hbm, ⟨53, _⟩ => ⟨S128x128, .f32⟩
  | .hbm, ⟨54, _⟩ => ⟨S_, .f32⟩
  | .hbm, ⟨55, _⟩ => ⟨S128x128, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S128x128, .f32⟩
  | .hbm, ⟨63, _⟩ => ⟨S128x128, .f32⟩
  | .hbm, ⟨64, _⟩ => ⟨S128x64, .f32⟩
  | .hbm, ⟨65, _⟩ => ⟨S128x128, .f32⟩
  | .hbm, ⟨66, _⟩ => ⟨S128x256, .f32⟩
  | .hbm, ⟨67, _⟩ => ⟨S128x256, .f32⟩
  | .hbm, ⟨68, _⟩ => ⟨S256x256, .f32⟩
  | .hbm, ⟨69, _⟩ => ⟨S128x128, .f32⟩
  | .hbm, ⟨70, _⟩ => ⟨S128x256, .f32⟩
  | .hbm, ⟨71, _⟩ => ⟨S128x256, .f32⟩
  | .hbm, ⟨72, _⟩ => ⟨S256x256, .f32⟩
  | .hbm, ⟨73, _⟩ => ⟨S64x64, .f32⟩
  | .hbm, ⟨74, _⟩ => ⟨S64x128, .f32⟩
  | .hbm, ⟨75, _⟩ => ⟨S32x64x128x64, .f32⟩
  | .hbm, ⟨76, _⟩ => ⟨S32x64x64x128, .f32⟩
  | .hbm, ⟨77, _⟩ => ⟨S32x64x64x128, .f32⟩
  | .hbm, ⟨78, _⟩ => ⟨S32x64x64x128, .f32⟩
  | .hbm, ⟨79, _⟩ => ⟨S32x64x128x64, .f32⟩
  | .hbm, ⟨80, _⟩ => ⟨S32x8192x64, .f32⟩
  | .hbm, ⟨81, _⟩ => ⟨S32x64x128x64, .f32⟩
  | .hbm, ⟨82, _⟩ => ⟨S32x8192x64, .f32⟩
  | .local _ .vmem, ⟨0, _⟩ => ⟨S1x64x64x128, .f32⟩
  | .local _ .vmem, ⟨1, _⟩ => ⟨S1x64x64x128, .f32⟩
  | .local _ .vmem, ⟨2, _⟩ => ⟨S128x64, .f32⟩
  | .local _ .vmem, ⟨3, _⟩ => ⟨S64x128, .f32⟩
  | .local _ .vmem, ⟨4, _⟩ => ⟨S64x128, .f32⟩
  | .local _ .vmem, ⟨5, _⟩ => ⟨S256x256, .f32⟩
  | .local _ .vmem, ⟨6, _⟩ => ⟨S256x256, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S1x64x64x128, .f32⟩
  | .local _ .vmem, ⟨11, _⟩ => ⟨S1x64x64x128, .f32⟩
  | .local _ .vmem, ⟨12, _⟩ => ⟨S1x64x64x128, .f32⟩
  | .local _ .vmem, ⟨13, _⟩ => ⟨S1x64x64x128, .f32⟩
  | _, _ => ⟨S32x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_c_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_9 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v53 : Ref sig .tc := ⟨.hbm, 64, rfl⟩
abbrev main_v54 : Ref sig .tc := ⟨.hbm, 65, rfl⟩
abbrev main_call2_v0 : Ref sig .tc := ⟨.hbm, 66, rfl⟩
abbrev main_call2_v1 : Ref sig .tc := ⟨.hbm, 67, rfl⟩
abbrev main_v55 : Ref sig .tc := ⟨.hbm, 68, rfl⟩
abbrev main_v56 : Ref sig .tc := ⟨.hbm, 69, rfl⟩
abbrev main_call3_v0 : Ref sig .tc := ⟨.hbm, 70, rfl⟩
abbrev main_call3_v1 : Ref sig .tc := ⟨.hbm, 71, rfl⟩
abbrev main_v57 : Ref sig .tc := ⟨.hbm, 72, rfl⟩
abbrev main_v58 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64_0 : Ref sig .tc := ⟨.hbm, 77, rfl⟩
abbrev main_v64_1 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x64x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S32x8192x64 : Shape := ⟨3, ![32, 8192, 64]⟩
abbrev S8192x4097 : Shape := ⟨2, ![8192, 4097]⟩
abbrev S_ : Shape := ⟨0, ![]⟩
abbrev S32x64x4097 : Shape := ⟨3, ![32, 64, 4097]⟩
abbrev S32x64x8 : Shape := ⟨3, ![32, 64, 8]⟩
abbrev S32 : Shape := ⟨1, ![32]⟩
abbrev S32x1x1 : Shape := ⟨3, ![32, 1, 1]⟩
abbrev S64 : Shape := ⟨1, ![64]⟩
abbrev S1x64x1 : Shape := ⟨3, ![1, 64, 1]⟩
abbrev S32x64x8x1 : Shape := ⟨4, ![32, 64, 8, 1]⟩
abbrev S32x64x8x3 : Shape := ⟨4, ![32, 64, 8, 3]⟩
abbrev S4097 : Shape := ⟨1, ![4097]⟩
abbrev S1x1x4097 : Shape := ⟨3, ![1, 1, 4097]⟩
abbrev S8192x32x64 : Shape := ⟨3, ![8192, 32, 64]⟩

abbrev nBuf : Space → Nat
  | .hbm => 116
  | .vmem => 0
  | .smem => 0
  | _ => 0

abbrev bufTy : (tb : Table) → Fin (tcTables nBuf tb) → BufTy
  | .hbm, ⟨0, _⟩ => ⟨S32x8192x64, .f32⟩
  | .hbm, ⟨1, _⟩ => ⟨S8192x4097, .i32⟩
  | .hbm, ⟨2, _⟩ => ⟨S8192x4097, .i32⟩
  | .hbm, ⟨3, _⟩ => ⟨S8192x4097, .i32⟩
  | .hbm, ⟨4, _⟩ => ⟨S_, .i32⟩
  | .hbm, ⟨5, _⟩ => ⟨S8192x4097, .i32⟩
  | .hbm, ⟨6, _⟩ => ⟨S8192x4097, .i32⟩
  | .hbm, ⟨7, _⟩ => ⟨S8192x4097, .f32⟩
  | .hbm, ⟨8, _⟩ => ⟨S_, .f32⟩
  | .hbm, ⟨9, _⟩ => ⟨S8192x4097, .f32⟩
  | .hbm, ⟨10, _⟩ => ⟨S8192x4097, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x4097, .f32⟩
  | .hbm, ⟨16, _⟩ => ⟨S8192x4097, .f32⟩
  | .hbm, ⟨17, _⟩ => ⟨S8192x4097, .f32⟩
  | .hbm, ⟨18, _⟩ => ⟨S8192x4097, .f32⟩
  | .hbm, ⟨19, _⟩ => ⟨S32x64x4097, .f32⟩
  | .hbm, ⟨20, _⟩ => ⟨S32x64x4097, .f32⟩
  | .hbm, ⟨21, _⟩ => ⟨S32x64x4097, .f32⟩
  | .hbm, ⟨22, _⟩ => ⟨S32x64x4097, .f32⟩
  | .hbm, ⟨23, _⟩ => ⟨S32x64x4097, .f32⟩
  | .hbm, ⟨24, _⟩ => ⟨S32x64x4097, .f32⟩
  | .hbm, ⟨25, _⟩ => ⟨S32x64x4097, .f32⟩
  | .hbm, ⟨26, _⟩ => ⟨S32x64x8, .f32⟩
  | .hbm, ⟨27, _⟩ => ⟨S32x64x8, .i32⟩
  | .hbm, ⟨28, _⟩ => ⟨S32, .i32⟩
  | .hbm, ⟨29, _⟩ => ⟨S32x1x1, .i32⟩
  | .hbm, ⟨30, _⟩ => ⟨S64, .i32⟩
  | .hbm, ⟨31, _⟩ => ⟨S1x64x1, .i32⟩
  | .hbm, ⟨32, _⟩ => ⟨S_, .i1⟩
  | .hbm, ⟨33, _⟩ => ⟨S32x64x4097, .i1⟩
  | .hbm, ⟨34, _⟩ => ⟨S_, .i32⟩
  | .hbm, ⟨35, _⟩ => ⟨S32x1x1, .i32⟩
  | .hbm, ⟨36, _⟩ => ⟨S32x1x1, .i1⟩
  | .hbm, ⟨37, _⟩ => ⟨S_, .i32⟩
  | .hbm, ⟨38, _⟩ => ⟨S32x1x1, .i32⟩
  | .hbm, ⟨39, _⟩ => ⟨S32x1x1, .i32⟩
  | .hbm, ⟨40, _⟩ => ⟨S32x1x1, .i32⟩
  | .hbm, ⟨41, _⟩ => ⟨S_, .i32⟩
  | .hbm, ⟨42, _⟩ => ⟨S1x64x1, .i32⟩
  | .hbm, ⟨43, _⟩ => ⟨S1x64x1, .i1⟩
  | .hbm, ⟨44, _⟩ => ⟨S_, .i32⟩
  | .hbm, ⟨45, _⟩ => ⟨S1x64x1, .i32⟩
  | .hbm, ⟨46, _⟩ => ⟨S1x64x1, .i32⟩
  | .hbm, ⟨47, _⟩ => ⟨S1x64x1, .i32⟩
  | .hbm, ⟨48, _⟩ => ⟨S_, .i32⟩
  | .hbm, ⟨49, _⟩ => ⟨S32x64x8, .i32⟩
  | .hbm, ⟨50, _⟩ => ⟨S32x64x8, .i1⟩
  | .hbm, ⟨51, _⟩ => ⟨S_, .i32⟩
  | .hbm, ⟨52, _⟩ => ⟨S32x64x8, .i32⟩
  | .hbm, ⟨53, _⟩ => ⟨S32x64x8, .i32⟩
  | .hbm, ⟨54, _⟩ => ⟨S32x64x8, .i32⟩
  | .hbm, ⟨55, _⟩ => ⟨S32x64x8, .i32⟩
  | .hbm, ⟨56, _⟩ => ⟨S32x64x8, .i32⟩
  | .hbm, ⟨57, _⟩ => ⟨S32x64x8x1, .i32⟩
  | .hbm, ⟨58, _⟩ => ⟨S32x64x8x1, .i32⟩
  | .hbm, ⟨59, _⟩ => ⟨S32x64x8x1, .i32⟩
  | .hbm, ⟨60, _⟩ => ⟨S32x64x8x3, .i32⟩
  | .hbm, ⟨61, _⟩ => ⟨S_, .i1⟩
  | .hbm, ⟨62, _⟩ => ⟨S32x64x8, .i1⟩
  | .hbm, ⟨63, _⟩ => ⟨S32x64x4097, .i1⟩
  | .hbm, ⟨64, _⟩ => ⟨S_, .f32⟩
  | .hbm, ⟨65, _⟩ => ⟨S_, .f32⟩
  | .hbm, ⟨66, _⟩ => ⟨S32x64x4097, .f32⟩
  | .hbm, ⟨67, _⟩ => ⟨S32x64x4097, .f32⟩
  | .hbm, ⟨68, _⟩ => ⟨S_, .f32⟩
  | .hbm, ⟨69, _⟩ => ⟨S_, .f32⟩
  | .hbm, ⟨70, _⟩ => ⟨S32x64x4097, .f32⟩
  | .hbm, ⟨71, _⟩ => ⟨S32x64x4097, .f32⟩
  | .hbm, ⟨72, _⟩ => ⟨S32x64x4097, .f32⟩
  | .hbm, ⟨73, _⟩ => ⟨S32x64x4097, .f32⟩
  | .hbm, ⟨74, _⟩ => ⟨S4097, .i32⟩
  | .hbm, ⟨75, _⟩ => ⟨S_, .i32⟩
  | .hbm, ⟨76, _⟩ => ⟨S4097, .i32⟩
  | .hbm, ⟨77, _⟩ => ⟨S4097, .i1⟩
  | .hbm, ⟨78, _⟩ => ⟨S_, .i32⟩
  | .hbm, ⟨79, _⟩ => ⟨S4097, .i32⟩
  | .hbm, ⟨80, _⟩ => ⟨S4097, .i1⟩
  | .hbm, ⟨81, _⟩ => ⟨S4097, .i1⟩
  | .hbm, ⟨82, _⟩ => ⟨S_, .f32⟩
  | .hbm, ⟨83, _⟩ => ⟨S_, .f32⟩
  | .hbm, ⟨84, _⟩ => ⟨S4097, .f32⟩
  | .hbm, ⟨85, _⟩ => ⟨S4097, .f32⟩
  | .hbm, ⟨86, _⟩ => ⟨S4097, .f32⟩
  | .hbm, ⟨87, _⟩ => ⟨S_, .f32⟩
  | .hbm, ⟨88, _⟩ => ⟨S4097, .f32⟩
  | .hbm, ⟨89, _⟩ => ⟨S4097, .f32⟩
  | .hbm, ⟨90, _⟩ => ⟨S4097, .f32⟩
  | .hbm, ⟨91, _⟩ => ⟨S1x1x4097, .f32⟩
  | .hbm, ⟨92, _⟩ => ⟨S32x64x4097, .f32⟩
  | .hbm, ⟨93, _⟩ => ⟨S32x64x4097, .f32⟩
  | .hbm, ⟨94, _⟩ => ⟨S8192x32x64, .f32⟩
  | .hbm, ⟨95, _⟩ => ⟨S32x8192x64, .f32⟩
  | .hbm, ⟨96, _⟩ => ⟨S4097, .f32⟩
  | .hbm, ⟨97, _⟩ => ⟨S1x1x4097, .f32⟩
  | .hbm, ⟨98, _⟩ => ⟨S32x64x4097, .f32⟩
  | .hbm, ⟨99, _⟩ => ⟨S32x64x4097, .f32⟩
  | .hbm, ⟨100, _⟩ => ⟨S8192x32x64, .f32⟩
  | .hbm, ⟨101, _⟩ => ⟨S32x8192x64, .f32⟩
  | .hbm, ⟨102, _⟩ => ⟨S32x8192x64, .f32⟩
  | .hbm, ⟨103, _⟩ => ⟨S4097, .f32⟩
  | .hbm, ⟨104, _⟩ => ⟨S1x1x4097, .f32⟩
  | .hbm, ⟨105, _⟩ => ⟨S32x64x4097, .f32⟩
  | .hbm, ⟨106, _⟩ => ⟨S32x64x4097, .f32⟩
  | .hbm, ⟨107, _⟩ => ⟨S8192x32x64, .f32⟩
  | .hbm, ⟨108, _⟩ => ⟨S32x8192x64, .f32⟩
  | .hbm, ⟨109, _⟩ => ⟨S4097, .f32⟩
  | .hbm, ⟨110, _⟩ => ⟨S1x1x4097, .f32⟩
  | .hbm, ⟨111, _⟩ => ⟨S32x64x4097, .f32⟩
  | .hbm, ⟨112, _⟩ => ⟨S32x64x4097, .f32⟩
  | .hbm, ⟨113, _⟩ => ⟨S8192x32x64, .f32⟩
  | .hbm, ⟨114, _⟩ => ⟨S32x8192x64, .f32⟩
  | .hbm, ⟨115, _⟩ => ⟨S32x8192x64, .f32⟩
  | _, _ => ⟨S32x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_values : Ref sig .tc := ⟨.hbm, 26, rfl⟩
abbrev main_indices : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_c_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_7 : Ref sig .tc := ⟨.hbm, 48, rfl⟩
abbrev main_v36 : Ref sig .tc := ⟨.hbm, 49, rfl⟩
abbrev main_v37 : Ref sig .tc := ⟨.hbm, 50, rfl⟩
abbrev main_c_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_9 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_call0_v0 : Ref sig .tc := ⟨.hbm, 65, rfl⟩
abbrev main_call0_v1 : Ref sig .tc := ⟨.hbm, 66, rfl⟩
abbrev main_v49 : Ref sig .tc := ⟨.hbm, 67, rfl⟩
abbrev main_cst_11 : Ref sig .tc := ⟨.hbm, 68, rfl⟩
abbrev main_call1_v0 : Ref sig .tc := ⟨.hbm, 69, rfl⟩
abbrev main_call1_v1 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_12 : Ref sig .tc := ⟨.hbm, 75, rfl⟩
abbrev main_v54 : Ref sig .tc := ⟨.hbm, 76, rfl⟩
abbrev main_v55 : Ref sig .tc := ⟨.hbm, 77, rfl⟩
abbrev main_c_13 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_cst_15 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_cst_16 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩

abbrev nD : Nat := 1
abbrev τ : Topo := Topo.v7x

variable {F : FTy → Type} [FloatOps F]
-- ==== Proof.Fourier.lean ====
/- The mathematics of the transform over the real numbers: the sums that define it, its two-factor form, its mirror
   symmetry and its inversion. Nothing here mentions a program. -/
module

public import Mathlib.Analysis.SpecialFunctions.Trigonometric.Basic
public import Mathlib.Algebra.BigOperators.Fin
public import Mathlib.Logic.Equiv.Fin.Basic

@[expose] public section

noncomputable section

namespace Cert.Fourier

open Finset

/-- The cosine of the fraction `a / N` of a full turn. -/
def cs (N a : ℕ) : ℝ := Real.cos (2 * Real.pi * (a : ℝ) / N)

/-- The sine of the fraction `a / N` of a full turn. -/
def sn (N a : ℕ) : ℝ := Real.sin (2 * Real.pi * (a : ℝ) / N)

/-- Whole turns do not change the cosine. -/
theorem cs_mod (N a : ℕ) (hN : 0 < N) : cs N (a % N) = cs N a := by
  have hN' : (N : ℝ) ≠ 0 := by positivity
  have h : (a : ℝ) = ((a % N : ℕ) : ℝ) + N * ((a / N : ℕ) : ℝ) := by exact_mod_cast (Nat.mod_add_div a N).symm
  have e : 2 * Real.pi * (a : ℝ) / N = 2 * Real.pi * ((a % N : ℕ) : ℝ) / N + ((a / N : ℕ) : ℝ) * (2 * Real.pi) := by
    rw [h]; field_simp
  unfold cs
  rw [e, Real.cos_add_nat_mul_two_pi]

/-- Whole turns do not change the sine. -/
theorem sn_mod (N a : ℕ) (hN : 0 < N) : sn N (a % N) = sn N a := by
  have hN' : (N : ℝ) ≠ 0 := by positivity
  have h : (a : ℝ) = ((a % N : ℕ) : ℝ) + N * ((a / N : ℕ) : ℝ) := by exact_mod_cast (Nat.mod_add_div a N).symm
  have e : 2 * Real.pi * (a : ℝ) / N = 2 * Real.pi * ((a % N : ℕ) : ℝ) / N + ((a / N : ℕ) : ℝ) * (2 * Real.pi) := by
    rw [h]; field_simp
  unfold sn
  rw [e, Real.sin_add_nat_mul_two_pi]

/-- The angle of `k·t / 8192` is the sum of the three angles of the factorisation `k = k₂ + 64 k₁`, `t = 128 t₂ + t₁`,
    up to whole turns. -/
theorem angle (k2 k1 t2 t1 : ℕ) :
    2 * Real.pi * (((k2 + 64 * k1) * (128 * t2 + t1) : ℕ) : ℝ) / (8192 : ℕ)
      = (2 * Real.pi * ((k2 * t2 : ℕ) : ℝ) / (64 : ℕ) + 2 * Real.pi * ((k2 * t1 : ℕ) : ℝ) / (8192 : ℕ)
          + 2 * Real.pi * ((t1 * k1 : ℕ) : ℝ) / (128 : ℕ)) + ((k1 * t2 : ℕ) : ℝ) * (2 * Real.pi) := by
  push_cast; ring

/-- The cosine of `k·t / 8192` in the three factors' cosines and sines. -/
theorem cs_split (k2 k1 t2 t1 : ℕ) :
    cs 8192 ((k2 + 64 * k1) * (128 * t2 + t1))
      = (cs 64 (k2 * t2) * cs 8192 (k2 * t1) - sn 64 (k2 * t2) * sn 8192 (k2 * t1)) * cs 128 (t1 * k1)
        - (sn 64 (k2 * t2) * cs 8192 (k2 * t1) + cs 64 (k2 * t2) * sn 8192 (k2 * t1)) * sn 128 (t1 * k1) := by
  unfold cs sn
  rw [angle, Real.cos_add_nat_mul_two_pi, Real.cos_add, Real.cos_add, Real.sin_add]

/-- The sine of `k·t / 8192` in the three factors' cosines and sines. -/
theorem sn_split (k2 k1 t2 t1 : ℕ) :
    sn 8192 ((k2 + 64 * k1) * (128 * t2 + t1))
      = (sn 64 (k2 * t2) * cs 8192 (k2 * t1) + cs 64 (k2 * t2) * sn 8192 (k2 * t1)) * cs 128 (t1 * k1)
        + (cs 64 (k2 * t2) * cs 8192 (k2 * t1) - sn 64 (k2 * t2) * sn 8192 (k2 * t1)) * sn 128 (t1 * k1) := by
  unfold cs sn
  rw [angle, Real.sin_add_nat_mul_two_pi, Real.sin_add, Real.cos_add, Real.sin_add]

/-- A sum over `a < m`, `b < n` of the values at `n·a + b` is the sum over all numbers below `m·n`. -/
theorem sum_pairs (m n : ℕ) (f : ℕ → ℝ) :
    ∑ b : Fin n, ∑ a : Fin m, f (n * a.val + b.val) = ∑ t : Fin (m * n), f t.val := by
  rw [Finset.sum_comm, ← Fintype.sum_prod_type' (fun (a : Fin m) (b : Fin n) => f (n * a.val + b.val))]
  refine Fintype.sum_equiv finProdFinEquiv _ _ fun p => ?_
  rw [finProdFinEquiv_apply_val, add_comm]

/-! ## The transform -/

/-- The real part of the transform of `x` at frequency `k`. -/
def re (x : ℕ → ℝ) (k : ℕ) : ℝ := ∑ t : Fin 8192, x t.val * cs 8192 (t.val * k)

/-- The imaginary part of the transform of `x` at frequency `k`. -/
def im (x : ℕ → ℝ) (k : ℕ) : ℝ := -∑ t : Fin 8192, x t.val * sn 8192 (t.val * k)

/-- The contribution of frequency `k` to the signal at time `t`, before the division by the length. -/
def wave (x : ℕ → ℝ) (k t : ℕ) : ℝ := re x k * cs 8192 (t * k) - im x k * sn 8192 (t * k)

/-! ## The forward transform in factors -/

/-- First factor, real part: column `k₂` of the 64-point transform over `n₂`. -/
def gR (x : ℕ → ℝ) (k2 n1 : ℕ) : ℝ := ∑ n2 : Fin 64, cs 64 (k2 * n2.val) * x (128 * n2.val + n1)
/-- First factor, imaginary part. -/
def gI (x : ℕ → ℝ) (k2 n1 : ℕ) : ℝ := ∑ n2 : Fin 64, -sn 64 (k2 * n2.val) * x (128 * n2.val + n1)
/-- Second factor, real part: the first one turned by `k₂·n₁ / 8192`. -/
def hR (x : ℕ → ℝ) (k2 n1 : ℕ) : ℝ := gR x k2 n1 * cs 8192 (k2 * n1) - gI x k2 n1 * -sn 8192 (k2 * n1)
/-- Second factor, imaginary part. -/
def hI (x : ℕ → ℝ) (k2 n1 : ℕ) : ℝ := gR x k2 n1 * -sn 8192 (k2 * n1) + gI x k2 n1 * cs 8192 (k2 * n1)

/-- The three factors compose to the real part of the transform. -/
theorem forward_re (x : ℕ → ℝ) (k2 k1 : ℕ) :
    ∑ n1 : Fin 128, hR x k2 n1.val * cs 128 (n1.val * k1) + ∑ n1 : Fin 128, hI x k2 n1.val * sn 128 (n1.val * k1)
      = re x (k2 + 64 * k1) := by
  unfold re
  rw [← Finset.sum_add_distrib, ← sum_pairs 64 128 (fun t => x t * cs 8192 (t * (k2 + 64 * k1)))]
  refine Finset.sum_congr rfl fun n1 _ => ?_
  unfold hR hI gR gI
  simp only [Finset.sum_mul, ← Finset.sum_add_distrib, ← Finset.sum_sub_distrib]
  refine Finset.sum_congr rfl fun n2 _ => ?_
  rw [mul_comm (128 * n2.val + n1.val), cs_split]
  ring

/-- The three factors compose to the imaginary part of the transform. -/
theorem forward_im (x : ℕ → ℝ) (k2 k1 : ℕ) :
    ∑ n1 : Fin 128, hR x k2 n1.val * -sn 128 (n1.val * k1) + ∑ n1 : Fin 128, hI x k2 n1.val * cs 128 (n1.val * k1)
      = im x (k2 + 64 * k1) := by
  unfold im
  rw [← Finset.sum_add_distrib, ← sum_pairs 64 128 (fun t => x t * sn 8192 (t * (k2 + 64 * k1))), ← Finset.sum_neg_distrib]
  refine Finset.sum_congr rfl fun n1 _ => ?_
  unfold hR hI gR gI
  simp only [Finset.sum_mul, ← Finset.sum_add_distrib, ← Finset.sum_sub_distrib, ← Finset.sum_neg_distrib]
  refine Finset.sum_congr rfl fun n2 _ => ?_
  rw [mul_comm (128 * n2.val + n1.val), sn_split]
  ring

/-! ## The inverse transform in factors -/

/-- Inverse, first factor, real part: the 128-point sum over `k₁` of the bins `(a k, b k)`. -/
def pR (a b : ℕ → ℝ) (k2 t1 : ℕ) : ℝ :=
  ∑ k1 : Fin 128, a (k2 + 64 * k1.val) * cs 128 (k1.val * t1) + ∑ k1 : Fin 128, b (k2 + 64 * k1.val) * -sn 128 (k1.val * t1)
/-- Inverse, first factor, imaginary part. -/
def pI (a b : ℕ → ℝ) (k2 t1 : ℕ) : ℝ :=
  ∑ k1 : Fin 128, a (k2 + 64 * k1.val) * sn 128 (k1.val * t1) + ∑ k1 : Fin 128, b (k2 + 64 * k1.val) * cs 128 (k1.val * t1)
/-- Inverse, second factor, real part. -/
def qR (a b : ℕ → ℝ) (k2 t1 : ℕ) : ℝ := pR a b k2 t1 * cs 8192 (k2 * t1) - pI a b k2 t1 * sn 8192 (k2 * t1)
/-- Inverse, second factor, imaginary part. -/
def qI (a b : ℕ → ℝ) (k2 t1 : ℕ) : ℝ := pR a b k2 t1 * sn 8192 (k2 * t1) + pI a b k2 t1 * cs 8192 (k2 * t1)

/-- The three factors of the inverse compose to the sum over all 8192 bins. -/
theorem inverse_factors (a b : ℕ → ℝ) (t2 t1 : ℕ) :
    ∑ k2 : Fin 64, cs 64 (t2 * k2.val) * qR a b k2.val t1 + ∑ k2 : Fin 64, -sn 64 (t2 * k2.val) * qI a b k2.val t1
      = ∑ k : Fin 8192, (a k.val * cs 8192 ((128 * t2 + t1) * k.val) - b k.val * sn 8192 ((128 * t2 + t1) * k.val)) := by
  rw [← Finset.sum_add_distrib,
    ← sum_pairs 128 64 (fun k => a k * cs 8192 ((128 * t2 + t1) * k) - b k * sn 8192 ((128 * t2 + t1) * k))]
  refine Finset.sum_congr rfl fun k2 _ => ?_
  unfold qR qI pR pI
  simp only [Finset.sum_mul, Finset.mul_sum, ← Finset.sum_add_distrib, ← Finset.sum_sub_distrib]
  refine Finset.sum_congr rfl fun k1 _ => ?_
  rw [add_comm (64 * k1.val) k2.val, mul_comm (128 * t2 + t1), cs_split, sn_split, mul_comm t2 k2.val, mul_comm t1 k1.val]
  ring

/-! ## Mirror images -/

/-- The cosine is the same at the mirrored frequency. -/
theorem cs_mirror (t k : ℕ) (hk : k ≤ 8192) : cs 8192 (t * (8192 - k)) = cs 8192 (t * k) := by
  unfold cs
  have e : 2 * Real.pi * ((t * (8192 - k) : ℕ) : ℝ) / (8192 : ℕ)
      = (t : ℝ) * (2 * Real.pi) - 2 * Real.pi * ((t * k : ℕ) : ℝ) / (8192 : ℕ) := by
    push_cast [Nat.cast_sub hk]; ring
  rw [e, Real.cos_nat_mul_two_pi_sub]

/-- The sine changes its sign at the mirrored frequency. -/
theorem sn_mirror (t k : ℕ) (hk : k ≤ 8192) : sn 8192 (t * (8192 - k)) = -sn 8192 (t * k) := by
  unfold sn
  have e : 2 * Real.pi * ((t * (8192 - k) : ℕ) : ℝ) / (8192 : ℕ)
      = (t : ℝ) * (2 * Real.pi) - 2 * Real.pi * ((t * k : ℕ) : ℝ) / (8192 : ℕ) := by
    push_cast [Nat.cast_sub hk]; ring
  rw [e, Real.sin_nat_mul_two_pi_sub]

/-- A bin and its mirror image contribute alike. -/
theorem wave_mirror (x : ℕ → ℝ) (t k : ℕ) (hk : k ≤ 8192) : wave x (8192 - k) t = wave x k t := by
  unfold wave re im
  simp only [cs_mirror _ _ hk, sn_mirror _ _ hk, mul_neg, Finset.sum_neg_distrib, neg_neg, neg_mul]

/-- How many bins of the full transform the bin `k ≤ 4096` stands for: itself and, in between, its mirror image. -/
def copies (k : ℕ) : ℝ := if k = 0 ∨ k = 4096 then 1 else 2

/-- A sum over all 8192 bins, symmetric under the mirror, is the weighted sum over the bins up to 4096. -/
theorem sum_mirror (G full : ℕ → ℝ) (hlo : ∀ k, k < 4096 → full k = G k)
    (hhi : ∀ k, 4096 ≤ k → k < 8192 → full k = G (8192 - k)) :
    ∑ k : Fin 8192, full k.val = ∑ k : Fin 4097, copies k.val * G k.val := by
  rw [← Finset.sum_range full, ← Finset.sum_range (fun k => copies k * G k)]
  have e1 : ∑ k ∈ range 8192, full k = ∑ k ∈ range 4096, G k + ∑ k ∈ range 4096, G (4096 - k) := by
    rw [show (8192 : ℕ) = 4096 + 4096 from rfl, Finset.sum_range_add]
    refine congrArg₂ (· + ·) (Finset.sum_congr rfl fun k hk => hlo k (Finset.mem_range.1 hk))
      (Finset.sum_congr rfl fun k hk => ?_)
    have := Finset.mem_range.1 hk
    rw [hhi _ (by omega) (by omega)]
    exact congrArg G (by omega)
  have e2 : ∑ k ∈ range 4096, G k = ∑ k ∈ range 4095, G (k + 1) + G 0 := Finset.sum_range_succ' _ _
  have e3 : ∑ k ∈ range 4096, G (4096 - k) = ∑ k ∈ range 4095, G (k + 1) + G 4096 := by
    rw [Finset.sum_range_succ' (fun k => G (4096 - k)) 4095, ← Finset.sum_range_reflect (fun k => G (k + 1)) 4095]
    refine congrArg₂ (· + ·) (Finset.sum_congr rfl fun k hk => ?_) rfl
    have := Finset.mem_range.1 hk
    exact congrArg G (by omega)
  have e4 : ∑ k ∈ range 4097, copies k * G k = ∑ k ∈ range 4095, 2 * G (k + 1) + G 0 + G 4096 := by
    rw [Finset.sum_range_succ (fun k => copies k * G k) 4096, Finset.sum_range_succ' (fun k => copies k * G k) 4095]
    have c0 : copies 0 = 1 := by simp [copies]
    have c1 : copies 4096 = 1 := by simp [copies]
    rw [c0, c1, one_mul, one_mul]
    refine congrArg₂ (· + ·) (congrArg₂ (· + ·) (Finset.sum_congr rfl fun k hk => ?_) rfl) rfl
    have := Finset.mem_range.1 hk
    rw [copies, if_neg (by omega)]
  rw [e1, e2, e3, e4, ← Finset.mul_sum]
  ring

/-! ## Inversion -/

/-- Twice the sine of half an angle times the sum of the cosines of its first `n` multiples. -/
theorem dirichlet (θ : ℝ) (n : ℕ) :
    2 * Real.sin (θ / 2) * ∑ k ∈ range n, Real.cos (k * θ) = Real.sin (n * θ - θ / 2) + Real.sin (θ / 2) := by
  induction n with
  | zero => simp [Real.sin_neg]
  | succ n ih =>
    rw [Finset.sum_range_succ, mul_add, ih]
    have e : ((n + 1 : ℕ) : ℝ) * θ - θ / 2 = n * θ + θ / 2 := by push_cast; ring
    rw [e, Real.sin_add, Real.sin_sub]
    ring

/-- The cosines of the multiples of a fraction `d / 8192` that is not a whole number of turns add up to zero. -/
theorem sum_cs (d : ℕ) (h0 : 0 < d) (h1 : d < 8192) : ∑ k : Fin 8192, cs 8192 (d * k.val) = 0 := by
  have hd0 : (0 : ℝ) < d := by exact_mod_cast h0
  have hd1 : (d : ℝ) < 8192 := by exact_mod_cast h1
  set θ : ℝ := 2 * Real.pi * d / 8192 with hθ
  have hk : ∀ k : ℕ, cs 8192 (d * k) = Real.cos (k * θ) := fun k => by
    unfold cs; congr 1; rw [hθ]; push_cast; ring
  have hsin : 0 < Real.sin (θ / 2) := by
    refine Real.sin_pos_of_pos_of_lt_pi (by rw [hθ]; positivity) ?_
    rw [hθ]
    have := Real.pi_pos
    nlinarith
  have key := dirichlet θ 8192
  have e : ((8192 : ℕ) : ℝ) * θ - θ / 2 = (d : ℝ) * (2 * Real.pi) - θ / 2 := by rw [hθ]; push_cast; ring
  rw [e, Real.sin_nat_mul_two_pi_sub, neg_add_cancel] at key
  rw [← Finset.sum_range (fun k => cs 8192 (d * k))]
  simp only [hk]
  exact (mul_eq_zero.1 key).resolve_left (by positivity)

/-- The waves of two times, correlated over all bins: 8192 at equal times and zero otherwise. -/
theorem correlate (s t : Fin 8192) :
    ∑ k : Fin 8192, (cs 8192 (s.val * k.val) * cs 8192 (t.val * k.val) + sn 8192 (s.val * k.val) * sn 8192 (t.val * k.val))
      = if s = t then 8192 else 0 := by
  have key : ∀ a b k : ℕ, a ≤ b → cs 8192 (a * k) * cs 8192 (b * k) + sn 8192 (a * k) * sn 8192 (b * k) = cs 8192 ((b - a) * k) := by
    intro a b k hab
    unfold cs sn
    rw [mul_comm (Real.cos _) (Real.cos _), mul_comm (Real.sin _) (Real.sin _), ← Real.cos_sub]
    congr 1
    push_cast [Nat.cast_sub hab]; ring
  by_cases h : s = t
  · subst h
    rw [if_pos rfl]
    simp only [key _ _ _ le_rfl, Nat.sub_self, Nat.zero_mul]
    simp [cs]
  · rw [if_neg h]
    have hv : s.val ≠ t.val := fun e => h (Fin.ext e)
    rcases lt_or_gt_of_ne hv with hlt | hgt
    · simp only [key _ _ _ hlt.le]
      exact sum_cs _ (by omega) (by omega)
    · rw [← sum_cs (s.val - t.val) (by omega) (by omega)]
      refine Finset.sum_congr rfl fun k _ => ?_
      rw [← key _ _ _ hgt.le, mul_comm (cs 8192 _), mul_comm (sn 8192 _)]

/-- The inverse transform of all bins gives the signal back. -/
theorem inversion (x : ℕ → ℝ) (t : Fin 8192) : ∑ k : Fin 8192, wave x k.val t.val = 8192 * x t.val := by
  have e : ∀ k : Fin 8192, wave x k.val t.val
      = ∑ s : Fin 8192, x s.val * (cs 8192 (s.val * k.val) * cs 8192 (t.val * k.val) + sn 8192 (s.val * k.val) * sn 8192 (t.val * k.val)) := by
    intro k
    unfold wave re im
    rw [neg_mul, sub_neg_eq_add, Finset.sum_mul, Finset.sum_mul, ← Finset.sum_add_distrib]
    exact Finset.sum_congr rfl fun s _ => by ring
  simp only [e]
  rw [Finset.sum_comm]
  simp only [← Finset.mul_sum, correlate]
  simp [mul_comm]

end Cert.Fourier

end
-- ==== Proof.Lift.lean ====
/- Real numbers among the extended reals: sums, and the programs' float constants. -/
module

public import Idealize.ShloMosaic.Lib.Pipeline.ValueKit
public import proofs.«01_k».proof.Proof.Fourier
public import Idealize.ShloMosaic.Lib.Routing.Words
public import Idealize.ShloMosaic.Lib.Routing.OpsSet

@[expose] public section

noncomputable section

namespace Cert.Lift

open Idealize.ShloMosaic Cert.Fourier

/-- A finite sum of real numbers, taken among the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The word of 1/8192. -/
theorem bits_inv8192 : Ideal.ofBits .f32 0x39000000#32 = ((1 / 8192 : ℝ) : EReal) := by
  simp [Ideal.ofBits, Ideal.ieee, -EReal.coe_mul]; norm_num
/-- The word of 8. -/
theorem bits_8 : Ideal.ofBits .f32 0x41000000#32 = ((8 : ℝ) : EReal) := by
  simp [Ideal.ofBits, Ideal.ieee, -EReal.coe_mul]; norm_num
/-- The word of 1. -/
theorem bits_1 : Ideal.ofBits .f32 0x3F800000#32 = ((1 : ℝ) : EReal) := by
  simp [Ideal.ofBits, Ideal.ieee, -EReal.coe_mul]; norm_num
/-- The word of 2. -/
theorem bits_2 : Ideal.ofBits .f32 0x40000000#32 = ((2 : ℝ) : EReal) := by
  simp [Ideal.ofBits, Ideal.ieee, -EReal.coe_mul]; norm_num
/-- The word of 0. -/
theorem bits_0 : Ideal.ofBits .f32 0x00000000#32 = ((0 : ℝ) : EReal) := by
  simp [Ideal.ofBits, Ideal.ieee, -EReal.coe_mul]
/-- The word of -1. -/
theorem bits_neg1 : Ideal.ofBits .f32 0xBF800000#32 = ((-1 : ℝ) : EReal) := by
  simp [Ideal.ofBits, Ideal.ieee, -EReal.coe_mul]; norm_num
/-- The word of 4096. -/
theorem bits_4096 : Ideal.ofBits .f32 0x45800000#32 = ((4096 : ℝ) : EReal) := by
  simp [Ideal.ofBits, Ideal.ieee, -EReal.coe_mul]; norm_num
/-- The word of 8192. -/
theorem bits_8192 : Ideal.ofBits .f32 0x46000000#32 = ((8192 : ℝ) : EReal) := by
  simp [Ideal.ofBits, Ideal.ieee, -EReal.coe_mul]; norm_num
/-- The word of 16384. -/
theorem bits_16384 : Ideal.ofBits .f32 0x46800000#32 = ((16384 : ℝ) : EReal) := by
  simp [Ideal.ofBits, Ideal.ieee, -EReal.coe_mul]; norm_num
/-- The word of 1/64. -/
theorem bits_inv64 : Ideal.ofBits .f32 0x3C800000#32 = ((1 / 64 : ℝ) : EReal) := by
  simp [Ideal.ofBits, Ideal.ieee, -EReal.coe_mul]; norm_num
/-- The word of 1/128. -/
theorem bits_inv128 : Ideal.ofBits .f32 0x3C000000#32 = ((1 / 128 : ℝ) : EReal) := by
  simp [Ideal.ofBits, Ideal.ieee, -EReal.coe_mul]; norm_num
/-- The word of minus infinity. -/
theorem bits_bot : Ideal.ofBits .f32 0xFF800000#32 = ⊥ := by
  simp [Ideal.ofBits, Ideal.ieee]
/-- The word of plus infinity. -/
theorem bits_top : Ideal.ofBits .f32 0x7F800000#32 = ⊤ := by
  simp [Ideal.ofBits, Ideal.ieee]

/-- Eight times the angle of slope one is a full turn. -/
theorem turn : Ideal.ofBits .f32 0x41000000#32 * Ideal.atan (Ideal.ofBits .f32 0x3F800000#32) = ((2 * Real.pi : ℝ) : EReal) := by
  rw [bits_8, bits_1, Ideal.atan_coe, Real.arctan_one, ← EReal.coe_mul]
  congr 1; ring

/-- The cosine of the angle as the programs compute it: the remainder, over the period, times a full turn. -/
theorem cos_angle (N a : ℕ) (hN : 0 < N) :
    Ideal.cos ((((a % N : ℕ) : ℝ) : EReal) * ((1 / N : ℝ) : EReal) * ((2 * Real.pi : ℝ) : EReal)) = ((cs N a : ℝ) : EReal) := by
  rw [← EReal.coe_mul, ← EReal.coe_mul, Ideal.cos_coe, ← cs_mod N a hN, cs]
  congr 2; ring

/-- The sine of the same angle. -/
theorem sin_angle (N a : ℕ) (hN : 0 < N) :
    Ideal.sin ((((a % N : ℕ) : ℝ) : EReal) * ((1 / N : ℝ) : EReal) * ((2 * Real.pi : ℝ) : EReal)) = ((sn N a : ℝ) : EReal) := by
  rw [← EReal.coe_mul, ← EReal.coe_mul, Ideal.sin_coe, ← sn_mod N a hN, sn]
  congr 2; ring

/-- The remainder of a product of two small numbers, as the programs' words compute it. -/
theorem rem_word (u : ArithUnit) (a b N : ℕ) (hab : a * b < 2 ^ 31) (hN0 : 0 < N) (hN : N < 2 ^ 31) :
    ((IntOp.remsi u (IntOp.muli (BitVec.ofNat 32 a) (BitVec.ofNat 32 b)) (BitVec.ofNat 32 N)).toInt : ℝ) = ((a * b % N : ℕ) : ℝ) := by
  have e : IntOp.muli (BitVec.ofNat 32 a) (BitVec.ofNat 32 b) = BitVec.ofNat 32 (a * b) := (BitVec.ofNat_mul a b).symm
  rw [e, Routing.remsi_word u hab hN0 hN, StableHlo.Predicate.toInt_ofNat_small _ ((Nat.mod_lt _ hN0).trans hN)]
  norm_cast

end Cert.Lift

end
-- ==== Proof.Ranking.lean ====
/- Choosing the eight strongest of the 4097 bins: the rank of a bin, the choice by repeated maximum, and the choice by a
   stable sort. Both choose the bins of rank below eight. Nothing here mentions a program. -/
module

public import Idealize.ShloMosaic.Lib.SortPrefix
public import Mathlib.Data.Real.Basic
public import Mathlib.Data.EReal.Basic
public import Mathlib.Data.Finset.Card

@[expose] public section

noncomputable section

namespace Cert.Ranking

open Finset Idealize.ShloMosaic
open scoped Classical

/-- Bin `j` is chosen before bin `k`: it is stronger, or as strong and has the smaller number. -/
def beats (v : ℕ → ℝ) (j k : ℕ) : Prop := v k < v j ∨ (v k = v j ∧ j < k)

/-- How many bins are chosen before bin `k`. -/
def rank (v : ℕ → ℝ) (k : ℕ) : ℕ := ((range 4097).filter fun j => beats v j k).card

/-- Nothing is chosen before itself. -/
theorem beats_irrefl (v : ℕ → ℝ) (k : ℕ) : ¬ beats v k k := by
  rintro (h | ⟨_, h⟩)
  · exact lt_irrefl _ h
  · exact lt_irrefl _ h

/-- The order of choice is transitive. -/
theorem beats_trans (v : ℕ → ℝ) {i j k : ℕ} (h : beats v i j) (h' : beats v j k) : beats v i k := by
  rcases h with h | ⟨e, h⟩ <;> rcases h' with h' | ⟨e', h'⟩
  · exact Or.inl (h'.trans h)
  · exact Or.inl (e' ▸ h)
  · exact Or.inl (e ▸ h')
  · exact Or.inr ⟨e'.trans e, h.trans h'⟩

/-- Of two different bins one is chosen before the other. -/
theorem beats_total (v : ℕ → ℝ) {j k : ℕ} (h : j ≠ k) : beats v j k ∨ beats v k j := by
  rcases lt_trichotomy (v j) (v k) with hv | hv | hv
  · exact Or.inr (Or.inl hv)
  · rcases lt_or_gt_of_ne h with hl | hl
    · exact Or.inl (Or.inr ⟨hv.symm, hl⟩)
    · exact Or.inr (Or.inr ⟨hv, hl⟩)
  · exact Or.inl (Or.inl hv)

/-- A bin chosen before another has the smaller rank. -/
theorem rank_lt (v : ℕ → ℝ) {j k : ℕ} (hj : j < 4097) (h : beats v j k) : rank v j < rank v k := by
  refine Finset.card_lt_card ⟨fun i hi => ?_, fun hs => ?_⟩
  · rw [Finset.mem_filter] at hi ⊢
    exact ⟨hi.1, beats_trans v hi.2 h⟩
  · have : j ∈ (range 4097).filter fun i => beats v i j :=
      hs (Finset.mem_filter.2 ⟨Finset.mem_range.2 hj, h⟩)
    exact beats_irrefl v j (Finset.mem_filter.1 this).2

/-- `M` is the set of the first `r` choices. -/
structure Chosen (v : ℕ → ℝ) (r : ℕ) (M : ℕ → Prop) : Prop where
  card : ((range 4097).filter M).card = r
  mem : ∀ k, k < 4097 → (M k ↔ rank v k < r)

/-- No choice has been made. -/
theorem chosen_zero (v : ℕ → ℝ) : Chosen v 0 fun _ => False := ⟨by simp, fun k _ => by simp⟩

/-- The best of the bins not chosen yet is the next choice. -/
theorem Chosen.next {v : ℕ → ℝ} {r : ℕ} {M : ℕ → Prop} (h : Chosen v r M) {s : ℕ} (hs : s < 4097) (hM : ¬ M s)
    (hbest : ∀ k, k < 4097 → ¬ M k → k ≠ s → beats v s k) : Chosen v (r + 1) fun k => M k ∨ k = s := by
  have hset : ((range 4097).filter fun j => beats v j s) = (range 4097).filter M := by
    refine Finset.filter_congr fun j hj => ?_
    have hj' := Finset.mem_range.1 hj
    constructor
    · intro hb
      by_contra hn
      have hne : j ≠ s := fun e => beats_irrefl v s (e ▸ hb)
      exact beats_irrefl v s (beats_trans v (hbest j hj' hn hne) hb)
    · intro hm
      have hne : j ≠ s := fun e => hM (e ▸ hm)
      rcases beats_total v hne with hb | hb
      · exact hb
      · exact absurd ((h.mem s hs).2 ((rank_lt v hs hb).trans ((h.mem j hj').1 hm))) hM
  have hrank : rank v s = r := by unfold rank; rw [hset, h.card]
  refine ⟨?_, fun k hk => ?_⟩
  · have e : ((range 4097).filter fun k => M k ∨ k = s) = insert s ((range 4097).filter M) := by
      ext k
      simp only [Finset.mem_filter, Finset.mem_insert, Finset.mem_range]
      constructor
      · rintro ⟨hk, hm | rfl⟩
        · exact Or.inr ⟨hk, hm⟩
        · exact Or.inl rfl
      · rintro (rfl | ⟨hk, hm⟩)
        · exact ⟨hs, Or.inr rfl⟩
        · exact ⟨hk, Or.inl hm⟩
    have e2 : ((range 4097).filter fun k => M k ∨ k = s).card = r + 1 := by
      rw [e, Finset.card_insert_of_notMem (fun hm => hM (Finset.mem_filter.1 hm).2), h.card]
    convert e2
  · rw [h.mem k hk]
    constructor
    · rintro (hlt | rfl)
      · omega
      · omega
    · intro hlt
      by_cases e : k = s
      · exact Or.inr e
      · refine Or.inl ?_
        rcases beats_total v e with hb | hb
        · have := rank_lt v hk hb; omega
        · have := rank_lt v hs hb; omega

/-- Fewer than 4097 choices leave a bin to choose. -/
theorem Chosen.exists_left {v : ℕ → ℝ} {r : ℕ} {M : ℕ → Prop} (h : Chosen v r M) (hr : r < 4097) : ∃ k, k < 4097 ∧ ¬ M k := by
  by_contra hn
  replace hn : ∀ k, k < 4097 → M k := fun k hk => by_contra fun hm => hn ⟨k, hk, hm⟩
  have : ((range 4097).filter M) = range 4097 := Finset.filter_true_of_mem fun k hk => hn k (Finset.mem_range.1 hk)
  have hc := h.card
  rw [this, Finset.card_range] at hc
  omega

/-! ## The choice by a stable sort -/

/-- Sorting a list in increasing order under "stronger" alone is sorting it under "chosen before". -/
theorem stableSort_key {n : ℕ} (B B' : Fin n → Fin n → Bool) (h : ∀ a b, a < b → B b a = B' b a) (l : List (Fin n))
    (hl : l.Pairwise (· < ·)) : stableSort B l = stableSort B' l := by
  induction l with
  | nil => rfl
  | cons a l ih =>
    rw [List.pairwise_cons] at hl
    unfold stableSort
    rw [ih hl.2]
    refine insertBefore_congr B B' a _ fun b hb => h a b (hl.1 b ?_)
    exact (perm_stableSort B' l).mem_iff.1 hb

/-- Equal orders of the positions put equal positions at every place. -/
theorem sortedFrom_of_positions {n : ℕ} (B B' : Fin n → Fin n → Bool) (h : sortPositions n B = sortPositions n B') :
    sortedFrom B = sortedFrom B' := by
  funext i
  unfold sortedFrom
  rw [List.get_of_eq h]
  rfl

/-- A bin is among the first `r` positions of the stable sort by strength exactly when its rank is below `r`. -/
theorem sorted_iff (v : ℕ → ℝ) (B : Fin 4097 → Fin 4097 → Bool) (hB : ∀ a b, B a b = true ↔ v b.val < v a.val) (r : ℕ)
    (k : Fin 4097) : (∃ i : Fin 4097, i.val < r ∧ sortedFrom B i = k) ↔ rank v k.val < r := by
  set B' : Fin 4097 → Fin 4097 → Bool := fun a b => decide (beats v a.val b.val) with hB'
  have hsort : sortedFrom B = sortedFrom B' := by
    have : sortPositions 4097 B = sortPositions 4097 B' := by
      refine stableSort_key B B' (fun a b hab => ?_) _ (List.pairwise_lt_finRange _)
      rw [Bool.eq_iff_iff, hB, hB', decide_eq_true_iff]
      constructor
      · exact Or.inl
      · rintro (h | ⟨_, h⟩)
        · exact h
        · exact absurd h (not_lt.2 (le_of_lt hab))
    exact sortedFrom_of_positions _ _ this
  have hT : StrictTotalBefore B' := by
    refine ⟨fun a => ?_, fun a b c hab hbc => ?_, fun a b hne => ?_⟩
    · exact decide_eq_false (beats_irrefl v _)
    · exact decide_eq_true (beats_trans v (of_decide_eq_true hab) (of_decide_eq_true hbc))
    · rcases beats_total v (fun e => hne (Fin.ext e) : a.val ≠ b.val) with h | h
      · exact Or.inl (decide_eq_true h)
      · exact Or.inr (decide_eq_true h)
  rw [hsort]
  have hord : ∀ i j : Fin 4097, i < j → beats v (sortedFrom B' i).val (sortedFrom B' j).val := by
    intro i j hij
    have h1 := sortedFrom_noInversion B' B' hT.asymm (fun _ _ h => h) hT.negTrans i j hij
    have hne : sortedFrom B' i ≠ sortedFrom B' j := fun e => hij.ne (sortedFrom_injective B' e)
    rcases hT.total _ _ hne with h | h
    · exact of_decide_eq_true h
    · rw [h] at h1; exact absurd h1 (by decide)
  have hrank : ∀ i : Fin 4097, rank v (sortedFrom B' i).val = i.val := by
    intro i
    unfold rank
    have e : ((range 4097).filter fun j => beats v j (sortedFrom B' i).val)
        = (Finset.univ.filter fun j : Fin 4097 => j < i).image fun j => (sortedFrom B' j).val := by
      ext p
      simp only [Finset.mem_filter, Finset.mem_range, Finset.mem_image, Finset.mem_univ, true_and]
      constructor
      · rintro ⟨hp, hb⟩
        obtain ⟨j, hj⟩ := sortedFrom_surjective B' ⟨p, hp⟩
        have hjv : (sortedFrom B' j).val = p := congrArg Fin.val hj
        refine ⟨j, ?_, hjv⟩
        by_contra hn
        rcases eq_or_lt_of_le (not_lt.1 hn) with he | hlt
        · subst he; exact beats_irrefl v _ (hjv ▸ hb)
        · have := hord i j hlt
          rw [hjv] at this
          exact beats_irrefl v _ (beats_trans v this hb)
      · rintro ⟨j, hj, rfl⟩
        exact ⟨(sortedFrom B' j).isLt, hord j i hj⟩
    rw [e, Finset.card_image_of_injective _ (fun a b h => sortedFrom_injective B' (Fin.ext h))]
    rw [← Fin.card_Iio i]
    exact congrArg Finset.card (by ext j; simp)
  constructor
  · rintro ⟨i, hi, rfl⟩
    rw [hrank]; exact hi
  · intro h
    obtain ⟨i, hi⟩ := sortedFrom_surjective B' k
    refine ⟨i, ?_, hi⟩
    rw [← hi, hrank] at h
    exact h

end Cert.Ranking

end
-- ==== Proof.Spec.lean ====
/- What both programs compute, over the real numbers: the strengths of the bins, the choice of the eight strongest, the
   seasonal part of the signal and the rest. -/
module

public import proofs.«01_k».proof.Proof.Fourier
public import proofs.«01_k».proof.Proof.Ranking

@[expose] public section

noncomputable section

namespace Cert.Spec

open Cert.Fourier Cert.Ranking
open scoped Classical

/-- The strength of bin `k` of the signal `x`. -/
def strength (x : ℕ → ℝ) (k : ℕ) : ℝ := Real.sqrt (re x k * re x k + im x k * im x k)

/-- Strengths are not negative. -/
theorem strength_nonneg (x : ℕ → ℝ) (k : ℕ) : 0 ≤ strength x k := Real.sqrt_nonneg _

/-- Bin `k` is one of the eight strongest. -/
def strong (x : ℕ → ℝ) (k : ℕ) : Prop := rank (strength x) k < 8

/-- A value where the bin is one of the eight strongest, zero elsewhere. -/
def kept (x : ℕ → ℝ) (k : ℕ) (y : ℝ) : ℝ := if strong x k then y else 0

/-- The seasonal part of the signal at time `t`: the waves of the eight strongest bins. -/
def season (x : ℕ → ℝ) (t : ℕ) : ℝ := ∑ k : Fin 4097, copies k.val * kept x k.val (wave x k.val t) * (1 / 8192)

/-- The waves of all bins add up to the signal. -/
theorem whole (x : ℕ → ℝ) (t : Fin 8192) : ∑ k : Fin 4097, copies k.val * wave x k.val t.val * (1 / 8192) = x t.val := by
  have h := sum_mirror (fun k => wave x k t.val) (fun k => wave x k t.val) (fun _ _ => rfl)
    (fun k _ hk => (wave_mirror x t.val k hk.le).symm)
  have h' := inversion x t
  rw [h] at h'
  rw [← Finset.sum_mul, h']
  ring

/-- The seasonal part as the sum over all 8192 bins, each marked as itself or as its mirror image is. -/
theorem season_full (x : ℕ → ℝ) (t : ℕ) (μ : ℕ → ℝ) (hlo : ∀ k, k < 4096 → μ k = kept x k 1)
    (hhi : ∀ k, 4096 ≤ k → k < 8192 → μ k = kept x (8192 - k) 1) :
    (∑ k : Fin 8192, μ k.val * wave x k.val t) * (1 / 8192) = season x t := by
  have h1 : ∀ k, kept x k 1 * wave x k t = kept x k (wave x k t) := fun k => by
    unfold kept; split <;> simp
  have h := sum_mirror (fun k => kept x k (wave x k t)) (fun k => μ k * wave x k t)
    (fun k hk => by rw [hlo k hk, h1]) (fun k hk hk' => by rw [hhi k hk hk', ← h1, wave_mirror x t k hk'.le])
  rw [h, season, Finset.sum_mul]

end Cert.Spec

end
-- ==== Proof.Rounds.lean ====
/- The kernel's eight rounds: in each the strongest bin not yet taken is found, the one of least number on ties, and
   taken. -/
module

public import proofs.«01_k».proof.Proof.Gen.KernelIdeal.Frame
public import Idealize.ShloMosaic.Lib.Pipeline.ValueKit
public import proofs.«01_k».proof.Proof.Lift
public import proofs.«01_k».proof.Proof.Spec

@[expose] public section

set_option maxRecDepth 16384

noncomputable section

namespace Cert.Rounds

open Idealize.ShloMosaic Idealize.ShloMosaic.TcCoe Idealize.SL.Sem
open Cert.KernelIdeal Cert.KernelIdeal.Gen

/-- A value for every bin below the middle one, at `(k2, channel, k1)` that of bin `64·k1 + k2`. -/
abbrev Bins := FVec Ideal S64x64x64 .f32
/-- A value for every channel. -/
abbrev Row := FVec Ideal S1x64x1 .f32

/-- The strengths with every taken bin's replaced by −1. -/
def free (taken mag : Bins) : Bins :=
  select (cmpf .ogt taken (broadcast S64x64x64 (Scalar.ofBits .f32 0x00000000#32))) (broadcast S64x64x64 (Scalar.ofBits .f32 0xBF800000#32)) mag

/-- The same of the middle bin. -/
def freeMid (taken mag : Row) : Row :=
  select (cmpf .ogt taken (broadcast S1x64x1 (Scalar.ofBits .f32 0x00000000#32))) (broadcast S1x64x1 (Scalar.ofBits .f32 0xBF800000#32)) mag

/-- The largest of every channel. -/
def largest (e : Bins) : Row :=
  shapeCast S1x64x1 (multiReduction .maximumf [2] S1x64 (shapeCast S1x64x64 (multiReduction .maximumf [0] S64x64 e 0xFF800000#32 reduces_S64x64x64_S64x64 (.inl rfl) rfl) shapeCasts_S64x64_S1x64x64) 0xFF800000#32 reduces_S1x64x64_S1x64 (.inl rfl) rfl) shapeCasts_S1x64_S1x64x1

/-- The least of every channel. -/
def least (e : Bins) : Row :=
  shapeCast S1x64x1 (multiReduction .minimumf [2] S1x64 (shapeCast S1x64x64 (multiReduction .minimumf [0] S64x64 e 0x7F800000#32 reduces_S64x64x64_S64x64 (.inl rfl) rfl) shapeCasts_S64x64_S1x64x64) 0x7F800000#32 reduces_S1x64x64_S1x64 (.inl rfl) rfl) shapeCasts_S1x64_S1x64x1

/-- The least number of a bin whose value is `top`, below the middle one. -/
def firstLow (e idx : Bins) (top : Row) : Row :=
  least (select (cmpf .oeq e (broadcastTo S64x64x64 top broadcasts_S1x64x1_S64x64x64)) idx (broadcast S64x64x64 (Scalar.ofBits .f32 0x46800000#32)))

/-- The least number of a bin whose value is `top`, the middle one among them. -/
def first (e idx : Bins) (eMid top : Row) : Row :=
  select (cmpf .oeq eMid top) (minimumf (firstLow e idx top) (broadcast S1x64x1 (Scalar.ofBits .f32 0x45800000#32))) (firstLow e idx top)

/-- One where the bin's number is `n`, zero elsewhere. -/
def at1 (idx : Bins) (n : Row) : Bins :=
  select (cmpf .oeq idx (broadcastTo S64x64x64 n broadcasts_S1x64x1_S64x64x64)) (broadcast S64x64x64 (Scalar.ofBits .f32 0x3F800000#32)) (broadcast S64x64x64 (Scalar.ofBits .f32 0x00000000#32))

/-- The marks after taking bin `n`. -/
def take (idx taken : Bins) (n : Row) : Bins := maximumf taken (at1 idx n)

/-- The middle bin's mark after taking bin `n`. -/
def takeMid (taken n : Row) : Row :=
  select (cmpf .oeq n (broadcast S1x64x1 (Scalar.ofBits .f32 0x45800000#32))) (broadcast S1x64x1 (Scalar.ofBits .f32 0x3F800000#32)) taken

/-- The number of the strongest bin not yet taken. -/
def choice (mag idx taken : Bins) (magMid takenMid : Row) : Row :=
  first (free taken mag) idx (freeMid takenMid magMid) (maximumf (largest (free taken mag)) (freeMid takenMid magMid))

/-- The marks of the bins above the middle: bin `8192 − n` besides those already marked. -/
def mirror (idx up : Bins) (n : Row) : Bins :=
  maximumf up (at1 (k0_pay52 idx) (subf (broadcast S1x64x1 (Scalar.ofBits .f32 0x46000000#32)) n))

/-- The marks after `r` rounds. -/
def state (mag idx : Bins) (magMid : Row) : ℕ → Bins × Row
  | 0 => (k0_pay13, k0_pay14)
  | r + 1 => (take idx (state mag idx magMid r).1 (choice mag idx (state mag idx magMid r).1 magMid (state mag idx magMid r).2),
      takeMid (state mag idx magMid r).2 (choice mag idx (state mag idx magMid r).1 magMid (state mag idx magMid r).2))

/-- The bin that round `r` takes. -/
def sel (mag idx : Bins) (magMid : Row) (r : ℕ) : Row := choice mag idx (state mag idx magMid r).1 magMid (state mag idx magMid r).2

/-- The marks of the bins above the middle, of the first `r` rounds. -/
def ups (mag idx : Bins) (magMid : Row) : ℕ → Bins
  | 0 => broadcast S64x64x64 (Scalar.ofBits .f32 0x00000000#32)
  | r + 1 => mirror idx (ups mag idx magMid r) (sel mag idx magMid r)

/-! ## What a round finds -/

open Cert.Ranking Cert.Lift
open scoped Classical

/-- Of finitely many values there is a first among the largest. -/
theorem exists_first (E : ℕ → ℝ) : ∃ s < 4097, (∀ k < 4097, E k ≤ E s) ∧ ∀ k < 4097, E k = E s → s ≤ k := by
  obtain ⟨j, hj, hmax⟩ := Finset.exists_max_image (Finset.range 4097) E ⟨0, by simp⟩
  have hex : ∃ s, s < 4097 ∧ E s = E j := ⟨j, Finset.mem_range.1 hj, rfl⟩
  refine ⟨Nat.find hex, (Nat.find_spec hex).1, fun k hk => ?_, fun k hk he => Nat.find_min' hex ⟨hk, ?_⟩⟩
  · rw [(Nat.find_spec hex).2]
    exact hmax k (Finset.mem_range.2 hk)
  · rw [he, (Nat.find_spec hex).2]

/-- The largest value over all bins, taken as the kernel takes it. -/
theorem max_value (E : ℕ → ℝ) (s : ℕ) (hs : s < 4097) (hmax : ∀ k < 4097, E k ≤ E s) (g : Fin 64 → Fin 64 → EReal)
    (hg : ∀ k1 k2, g k1 k2 = ((E (64 * k1.val + k2.val) : ℝ) : EReal)) :
    max (Finset.univ.fold max ⊥ fun k1 : Fin 64 => Finset.univ.fold max ⊥ fun k2 : Fin 64 => g k1 k2) ((E 4096 : ℝ) : EReal) = ((E s : ℝ) : EReal) := by
  refine le_antisymm (max_le ((Finset.fold_max_le _).2 ⟨bot_le, fun k1 _ => (Finset.fold_max_le _).2 ⟨bot_le, fun k2 _ => ?_⟩⟩) ?_) ?_
  · rw [hg]
    exact EReal.coe_le_coe_iff.2 (hmax _ (by omega))
  · exact EReal.coe_le_coe_iff.2 (hmax _ (by omega))
  · rcases Nat.lt_or_ge s 4096 with h | h
    · refine le_max_of_le_left ((Finset.le_fold_max _).2 (.inr ⟨⟨s / 64, by omega⟩, Finset.mem_univ _,
        (Finset.le_fold_max _).2 (.inr ⟨⟨s % 64, by omega⟩, Finset.mem_univ _, ?_⟩)⟩))
      rw [hg]
      exact le_of_eq (congrArg (fun k => ((E k : ℝ) : EReal)) (by simp only; omega))
    · refine le_max_of_le_right (le_of_eq (congrArg (fun k => ((E k : ℝ) : EReal)) ?_))
      omega

/-- The least number of a bin with the largest value, taken as the kernel takes it. -/
theorem min_value (E : ℕ → ℝ) (s : ℕ) (hs : s < 4097) (hleast : ∀ k < 4097, E k = E s → s ≤ k) (g : Fin 64 → Fin 64 → EReal)
    (hg : ∀ k1 k2, g k1 k2 = if E (64 * k1.val + k2.val) = E s then (((64 * k1.val + k2.val : ℕ) : ℝ) : EReal) else ((16384 : ℝ) : EReal)) :
    (if E 4096 = E s then min (Finset.univ.fold min ⊤ fun k1 : Fin 64 => Finset.univ.fold min ⊤ fun k2 : Fin 64 => g k1 k2) ((4096 : ℝ) : EReal)
      else Finset.univ.fold min ⊤ fun k1 : Fin 64 => Finset.univ.fold min ⊤ fun k2 : Fin 64 => g k1 k2) = (((s : ℕ) : ℝ) : EReal) := by
  have hlow : (((s : ℕ) : ℝ) : EReal) ≤ Finset.univ.fold min ⊤ fun k1 : Fin 64 => Finset.univ.fold min ⊤ fun k2 : Fin 64 => g k1 k2 := by
    refine (Finset.le_fold_min _).2 ⟨le_top, fun k1 _ => (Finset.le_fold_min _).2 ⟨le_top, fun k2 _ => ?_⟩⟩
    rw [hg]
    split
    · next h => exact EReal.coe_le_coe_iff.2 (by exact_mod_cast hleast _ (by omega) h)
    · exact EReal.coe_le_coe_iff.2 (by exact_mod_cast (by omega : s ≤ 16384))
  have h4096 : (((s : ℕ) : ℝ) : EReal) ≤ ((4096 : ℝ) : EReal) := EReal.coe_le_coe_iff.2 (by exact_mod_cast (by omega : s ≤ 4096))
  rcases Nat.lt_or_ge s 4096 with h | h
  · have hup : (Finset.univ.fold min ⊤ fun k1 : Fin 64 => Finset.univ.fold min ⊤ fun k2 : Fin 64 => g k1 k2) ≤ (((s : ℕ) : ℝ) : EReal) := by
      refine (Finset.fold_min_le _).2 (.inr ⟨⟨s / 64, by omega⟩, Finset.mem_univ _, (Finset.fold_min_le _).2 (.inr ⟨⟨s % 64, by omega⟩, Finset.mem_univ _, ?_⟩)⟩)
      rw [hg, show 64 * (s / 64) + s % 64 = s by omega, if_pos rfl]
    have he := le_antisymm hup hlow
    rw [he, min_eq_left h4096, ite_self]
  · have h' : s = 4096 := by omega
    subst h'
    rw [if_pos rfl]
    exact le_antisymm (min_le_right _ _) (le_min hlow h4096)

/-- A mark that is set when either of two is. -/
theorem mark_or (P Q : Prop) {_ : Decidable P} {_ : Decidable Q} {_ : Decidable (P ∨ Q)} :
    max (((if P then 1 else 0 : ℝ)) : EReal) (if Q then 1 else 0) = (((if P ∨ Q then 1 else 0 : ℝ)) : EReal) := by
  by_cases h1 : P <;> by_cases h2 : Q <;> simp [h1, h2]

/-- Marks of equivalent conditions are equal. -/
theorem mark_congr {P Q : Prop} {_ : Decidable P} {_ : Decidable Q} (h : P ↔ Q) : (if P then 1 else 0 : ℝ) = if Q then 1 else 0 := by
  by_cases h1 : P
  · rw [if_pos h1, if_pos (h.1 h1)]
  · rw [if_neg h1, if_neg fun q => h1 (h.2 q)]

/-- The marks are those of the bins in `M`. -/
structure Holds (M : ℕ → Prop) (f : Fin 64) (taken : Bins) (takenMid : Row) : Prop where
  /-- below the middle -/
  low : ∀ k2 k1 : Fin 64, taken (ix3 k2 f k1) = (((if M (64 * k1.val + k2.val) then 1 else 0 : ℝ)) : EReal)
  /-- at the middle -/
  mid : takenMid (ix3 0 f 0) = (((if M 4096 then 1 else 0 : ℝ)) : EReal)

variable (mag idx : Bins) (magMid : Row) (v : ℕ → ℝ) (f : Fin 64)

/-- The kernel's choice is a bin not yet taken that beats every other such bin. -/
theorem choice_spec (hv : ∀ k, 0 ≤ v k) (hmag : ∀ k2 k1 : Fin 64, mag (ix3 k2 f k1) = ((v (64 * k1.val + k2.val) : ℝ) : EReal))
    (hmid : magMid (ix3 0 f 0) = ((v 4096 : ℝ) : EReal))
    (hidx : ∀ k2 k1 : Fin 64, idx (ix3 k2 f k1) = (((64 * k1.val + k2.val : ℕ) : ℝ) : EReal))
    (M : ℕ → Prop) (taken : Bins) (takenMid : Row) (hT : Holds M f taken takenMid) (hex : ∃ k < 4097, ¬ M k) :
    ∃ s < 4097, ¬ M s ∧ (∀ k < 4097, ¬ M k → k ≠ s → beats v s k) ∧ choice mag idx taken magMid takenMid (ix3 0 f 0) = (((s : ℕ) : ℝ) : EReal) := by
  obtain ⟨s, hs, hmax, hleast⟩ := exists_first fun k => if M k then (-1 : ℝ) else v k
  have hpos : ∀ M' : Prop, ((0 : EReal) < (((if M' then 1 else 0 : ℝ)) : EReal)) ↔ M' := fun M' => by
    by_cases h : M' <;> simp [h]
  have hfree : ∀ (M' : Prop) (y : ℝ), (if (0 : EReal) < (((if M' then 1 else 0 : ℝ)) : EReal) then ((-1 : ℝ) : EReal) else (y : EReal)) = (((if M' then -1 else y : ℝ)) : EReal) :=
    fun M' y => by
      rw [if_congr (hpos M') rfl rfl]
      split <;> rfl
  have hMs : ¬ M s := fun hM => by
    obtain ⟨k, hk, hkM⟩ := hex
    have := hmax k hk
    simp only [if_pos hM, if_neg hkM] at this
    linarith [hv k]
  refine ⟨s, hs, hMs, fun k hk hkM hne => ?_, ?_⟩
  · have h1 := hmax k hk
    have h2 := hleast k hk
    simp only [if_neg hMs, if_neg hkM] at h1 h2
    rcases lt_or_eq_of_le h1 with h | h
    · exact .inl h
    · exact .inr ⟨h, lt_of_le_of_ne (h2 h) (Ne.symm hne)⟩
  · have hm := max_value (fun k => if M k then (-1 : ℝ) else v k) s hs hmax _ fun _ _ => rfl
    have hn := min_value (fun k => if M k then (-1 : ℝ) else v k) s hs hleast _ fun _ _ => rfl
    pointwise [choice, free, freeMid, largest, first, firstLow, least]
    simp only [hT.low, hT.mid, hmag, hmid, hidx, bits_neg1, bits_bot, bits_top, hfree, bits_16384, bits_4096]
    rw [hm]
    simp only [EReal.coe_eq_coe_iff]
    exact hn

/-- Taking bin `s` adds it to the marks. -/
theorem take_spec (hidx : ∀ k2 k1 : Fin 64, idx (ix3 k2 f k1) = (((64 * k1.val + k2.val : ℕ) : ℝ) : EReal))
    (M : ℕ → Prop) (taken : Bins) (takenMid n : Row) (hT : Holds M f taken takenMid) (s : ℕ) (hn : n (ix3 0 f 0) = (((s : ℕ) : ℝ) : EReal)) :
    Holds (fun k => M k ∨ k = s) f (take idx taken n) (takeMid takenMid n) := by
  constructor
  · intro k2 k1
    pointwise [take, at1]
    rw [hT.low, hidx, hn]
    simp only [EReal.coe_eq_coe_iff, Nat.cast_inj]
    exact mark_or _ _
  · pointwise [takeMid]
    rw [hT.mid, hn, bits_4096]
    have : (((s : ℕ) : ℝ) : EReal) = ((4096 : ℝ) : EReal) ↔ 4096 = s := by
      rw [EReal.coe_eq_coe_iff]
      constructor
      · intro h
        have : ((s : ℕ) : ℝ) = ((4096 : ℕ) : ℝ) := by rw [h]; norm_num
        exact (Nat.cast_inj.1 this).symm
      · rintro rfl
        norm_num
    rw [if_congr this rfl rfl]
    by_cases h1 : M 4096 <;> by_cases h2 : 4096 = s <;> simp [h1, h2]

/-- Above the middle, taking bin `s` adds bin `8192 − s`. -/
theorem mirror_spec (hidx : ∀ k2 k1 : Fin 64, idx (ix3 k2 f k1) = (((64 * k1.val + k2.val : ℕ) : ℝ) : EReal))
    (M : ℕ → Prop) (up : Bins) (n : Row) (hT : ∀ k2 k1 : Fin 64, up (ix3 k2 f k1) = (((if M (4096 - (64 * k1.val + k2.val)) then 1 else 0 : ℝ)) : EReal))
    (s : ℕ) (hn : n (ix3 0 f 0) = (((s : ℕ) : ℝ) : EReal)) (k2 k1 : Fin 64) :
    mirror idx up n (ix3 k2 f k1) = (((if M (4096 - (64 * k1.val + k2.val)) ∨ 4096 - (64 * k1.val + k2.val) = s then 1 else 0 : ℝ)) : EReal) := by
  pointwise [mirror, at1, k0_pay52]
  rw [hT, hidx, hn, bits_4096, bits_8192, ← EReal.coe_add, ← EReal.coe_sub]
  have : (((((64 * k1.val + k2.val : ℕ) : ℝ) + 4096 : ℝ)) : EReal) = (((8192 - (s : ℝ) : ℝ)) : EReal) ↔ 4096 - (64 * k1.val + k2.val) = s := by
    rw [EReal.coe_eq_coe_iff]
    constructor
    · intro h
      have : (((64 * k1.val + k2.val) + s : ℕ) : ℝ) = ((4096 : ℕ) : ℝ) := by push_cast at h ⊢; linarith
      have := Nat.cast_inj.1 this
      omega
    · intro h
      have : (64 * k1.val + k2.val) + s = 4096 := by omega
      have : (((64 * k1.val + k2.val) + s : ℕ) : ℝ) = ((4096 : ℕ) : ℝ) := by rw [this]
      push_cast at this ⊢
      linarith
  rw [if_congr this rfl rfl]
  exact mark_or _ _

/-- After `r` rounds the marks are those of the `r` strongest bins, above the middle those of their mirror images. -/
theorem state_spec (hv : ∀ k, 0 ≤ v k) (hmag : ∀ k2 k1 : Fin 64, mag (ix3 k2 f k1) = ((v (64 * k1.val + k2.val) : ℝ) : EReal))
    (hmid : magMid (ix3 0 f 0) = ((v 4096 : ℝ) : EReal))
    (hidx : ∀ k2 k1 : Fin 64, idx (ix3 k2 f k1) = (((64 * k1.val + k2.val : ℕ) : ℝ) : EReal)) (r : ℕ) (hr : r ≤ 8) :
    ∃ M : ℕ → Prop, Chosen v r M ∧ Holds M f (state mag idx magMid r).1 (state mag idx magMid r).2 ∧
      ∀ k2 k1 : Fin 64, ups mag idx magMid r (ix3 k2 f k1) = (((if M (4096 - (64 * k1.val + k2.val)) then 1 else 0 : ℝ)) : EReal) := by
  induction r with
  | zero =>
    refine ⟨fun _ => False, chosen_zero v, ⟨fun k2 k1 => ?_, ?_⟩, fun k2 k1 => ?_⟩
    · show Ideal.ofBits .f32 0x00000000#32 = _
      rw [bits_0]
      simp
    · show Ideal.ofBits .f32 0x00000000#32 = _
      rw [bits_0]
      simp
    · show Ideal.ofBits .f32 0x00000000#32 = _
      rw [bits_0]
      simp
  | succ r ih =>
    obtain ⟨M, hM, hT, hU⟩ := ih (by omega)
    obtain ⟨s, hs, hMs, hbest, he⟩ := choice_spec mag idx magMid v f hv hmag hmid hidx M _ _ hT (hM.exists_left (by omega))
    exact ⟨_, hM.next hs hMs hbest, take_spec idx f hidx M _ _ _ hT s he,
      fun k2 k1 => (mirror_spec idx f hidx M _ _ hU s he k2 k1).trans (congrArg _ (mark_congr Iff.rfl))⟩

/-- After all eight rounds. -/
theorem final_spec (x : ℕ → ℝ) (hmag : ∀ k2 k1 : Fin 64, mag (ix3 k2 f k1) = ((Spec.strength x (64 * k1.val + k2.val) : ℝ) : EReal))
    (hmid : magMid (ix3 0 f 0) = ((Spec.strength x 4096 : ℝ) : EReal))
    (hidx : ∀ k2 k1 : Fin 64, idx (ix3 k2 f k1) = (((64 * k1.val + k2.val : ℕ) : ℝ) : EReal)) (k2 k1 : Fin 64) :
    (state mag idx magMid 8).1 (ix3 k2 f k1) = ((Spec.kept x (64 * k1.val + k2.val) 1 : ℝ) : EReal) ∧
      ups mag idx magMid 8 (ix3 k2 f k1) = ((Spec.kept x (4096 - (64 * k1.val + k2.val)) 1 : ℝ) : EReal) := by
  obtain ⟨M, hM, hT, hU⟩ := state_spec mag idx magMid (Spec.strength x) f (Spec.strength_nonneg x) hmag hmid hidx 8 le_rfl
  constructor
  · rw [hT.low]
    refine congrArg _ ?_
    unfold Spec.kept Spec.strong
    exact mark_congr (hM.mem _ (by omega))
  · rw [hU]
    refine congrArg _ ?_
    unfold Spec.kept Spec.strong
    exact mark_congr (hM.mem _ (by omega))

end Cert.Rounds

end
-- ==== Proof.Forward.lean ====
/- The kernel's transform of one row: two small transforms with a twist between them make the plain transform, and the
   strengths of the bins follow. -/
module

public import proofs.«01_k».proof.Proof.Rounds

@[expose] public section

set_option maxRecDepth 16384

noncomputable section

namespace Cert.Forward

open Idealize.ShloMosaic Idealize.ShloMosaic.TcCoe Idealize.SL.Sem
open Cert.KernelIdeal Cert.KernelIdeal.Gen
open Cert.Lift Cert.Fourier

/-- A sum over twice `n` numbers is the sum over the first `n` and over the others. -/
theorem sum_two (n : ℕ) (F : ℕ → ℝ) : ∑ q : Fin (n + n), F q.val = ∑ i : Fin n, F i.val + ∑ i : Fin n, F (n + i.val) := by
  rw [Fin.sum_univ_add]
  simp only [Fin.val_castAdd, Fin.val_natAdd]

variable (v0 : FVec Ideal S1x64x64x128 .f32) (v3 : FVec Ideal S128x64 .f32) (v6 v9 : FVec Ideal S64x128 .f32) (v29 : FVec Ideal S256x256 .f32)

/-- The small transforms over the quotients of the times. -/
def spread : FVec Ideal S128x8192 .f32 :=
  matmul (φ₁ := .f32) (φ₂ := .f32) dot_S128x64_S64x8192_S128x8192_1_0_0_1_n_n (some .fp32) (shapeCast S128x64 v3 shapeCasts_S128x64_S128x64)
    (shapeCast S64x8192 (k0_pay4 v0) shapeCasts_S64x64x128_S64x8192) (constant S128x8192 .f32 0x00000000#32)

/-- One part of `spread`, as an array over the residues of the bin, the channels and the residues of the time. -/
def real (g : FVec Ideal S128x8192 .f32) : FVec Ideal S64x64x128 .f32 :=
  shapeCast S64x64x128 (extractStridedSlice S64x8192 ![0, 0] g slices_S128x8192_o0_0_S64x8192) shapeCasts_S64x8192_S64x64x128

/-- The other part. -/
def imag (g : FVec Ideal S128x8192 .f32) : FVec Ideal S64x64x128 .f32 :=
  shapeCast S64x64x128 (extractStridedSlice S64x8192 ![64, 0] g slices_S128x8192_o64_0_S64x8192) shapeCasts_S64x8192_S64x64x128

/-- A table of the twist, the same for every channel. -/
def each (v : FVec Ideal S64x128 .f32) : FVec Ideal S64x64x128 .f32 :=
  broadcastTo S64x64x128 (shapeCast S64x1x128 (shapeCast S64x128 v shapeCasts_S64x128_S64x128) shapeCasts_S64x128_S64x1x128) broadcasts_S64x1x128_S64x64x128

/-- The twist, real parts beside imaginary parts. -/
def twisted (g : FVec Ideal S128x8192 .f32) : FVec Ideal S4096x256 .f32 :=
  concatenate S4096x256 1 [⟨S4096x128, shapeCast S4096x128 (subf (mulf (real g) (each v6)) (mulf (imag g) (each v9))) shapeCasts_S64x64x128_S4096x128⟩,
    ⟨S4096x128, shapeCast S4096x128 (addf (mulf (real g) (each v9)) (mulf (imag g) (each v6))) shapeCasts_S64x64x128_S4096x128⟩] concatenates_S4096x128_S4096x128_S4096x256_d1

/-- The kernel's transform in these steps. -/
theorem steps : k0_pay5 v0 v3 v6 v9 v29 = matmul (φ₁ := .f32) (φ₂ := .f32) dot_S4096x256_S256x256_S4096x256_1_0_0_1_n_n (some .fp32) (twisted v6 v9 (spread v0 v3))
    (shapeCast S256x256 v29 shapeCasts_S256x256_S256x256) (constant S4096x256 .f32 0x00000000#32) := rfl

variable (x : Fin 64 → ℕ → ℝ)
  (h0 : ∀ (i f : Fin 64) (j : Fin 128), v0 (ix4 0 i f j) = ((x f (128 * i.val + j.val) : ℝ) : EReal))
  (h3 : ∀ (a : Fin 128) (b : Fin 64), v3 (ix2 a b) = ((if a.val < 64 then cs 64 (a.val * b.val) else -sn 64 ((a.val - 64) * b.val) : ℝ) : EReal))
  (h6 : ∀ (a : Fin 64) (b : Fin 128), v6 (ix2 a b) = ((cs 8192 (a.val * b.val) : ℝ) : EReal))
  (h9 : ∀ (a : Fin 64) (b : Fin 128), v9 (ix2 a b) = ((-sn 8192 (a.val * b.val) : ℝ) : EReal))
  (h29 : ∀ a b : Fin 256, v29 (ix2 a b) = ((if a.val < 128 then (if b.val < 128 then cs 128 (a.val * b.val) else -sn 128 (a.val * (b.val - 128)))
        else (if b.val < 128 then sn 128 ((a.val - 128) * b.val) else cs 128 ((a.val - 128) * (b.val - 128))) : ℝ) : EReal))

include h0 h3

/-- The small transforms' values. -/
theorem spread_at (a : Fin 128) (f : Fin 64) (j : Fin 128) : spread v0 v3 (ix2 a ⟨f.val * 128 + j.val, by omega⟩)
    = ((if a.val < 64 then gR (x f) a.val j.val else gI (x f) (a.val - 64) j.val : ℝ) : EReal) := by
  pointwise [spread, k0_pay4]
  simp only [h0, h3, ← EReal.coe_mul, coe_sum]
  refine congrArg _ ?_
  split <;> rfl

include h6 h9

/-- The twist's values. -/
theorem twisted_at (k2 f : Fin 64) (q : Fin 256) : twisted v6 v9 (spread v0 v3) (ix2 ⟨k2.val * 64 + f.val, by omega⟩ q)
    = ((if q.val < 128 then hR (x f) k2.val q.val else hI (x f) k2.val (q.val - 128) : ℝ) : EReal) := by
  pointwise [twisted, real, imag, each]
  by_cases hq : q.val < 128
  · have e1 := spread_at v0 v3 x h0 h3 ⟨k2.val, by omega⟩ f ⟨q.val, hq⟩
    have e2 := spread_at v0 v3 x h0 h3 ⟨64 + k2.val, by omega⟩ f ⟨q.val, hq⟩
    simp only [k2.isLt, if_pos, show ¬ 64 + k2.val < 64 by omega, if_neg, not_false_eq_true, Nat.add_sub_cancel_left] at e1 e2
    rw [dif_pos hq, if_pos hq, e1, e2, h6, h9, ← EReal.coe_mul, ← EReal.coe_mul, ← EReal.coe_sub]
    rfl
  · have e1 := spread_at v0 v3 x h0 h3 ⟨k2.val, by omega⟩ f ⟨q.val - 128, by omega⟩
    have e2 := spread_at v0 v3 x h0 h3 ⟨64 + k2.val, by omega⟩ f ⟨q.val - 128, by omega⟩
    simp only [k2.isLt, if_pos, show ¬ 64 + k2.val < 64 by omega, if_neg, not_false_eq_true, Nat.add_sub_cancel_left] at e1 e2
    rw [dif_neg hq, if_neg hq, e1, e2, h6, h9, ← EReal.coe_mul, ← EReal.coe_mul, ← EReal.coe_add]
    rfl

include h29

/-- The transform's real parts. -/
theorem re_at (k2 f : Fin 64) (k1 : Fin 128) : (k0_pay5 v0 v3 v6 v9 v29 : FVec Ideal S4096x256 .f32) (ix2 ⟨k2.val * 64 + f.val, by omega⟩ ⟨k1.val, by omega⟩)
    = ((re (x f) (k2.val + 64 * k1.val) : ℝ) : EReal) := by
  rw [steps]
  pointwise
  simp only [twisted_at v0 v3 v6 v9 x h0 h3 h6 h9, h29, ← EReal.coe_mul, coe_sum]
  refine congrArg _ ?_
  rw [← forward_re]
  refine (sum_two 128 fun q => (if q < 128 then hR (x f) k2.val q else hI (x f) k2.val (q - 128)) * (if q < 128 then
    (if k1.val < 128 then cs 128 (q * k1.val) else -sn 128 (q * (k1.val - 128))) else
    (if k1.val < 128 then sn 128 ((q - 128) * k1.val) else cs 128 ((q - 128) * (k1.val - 128))))).trans ?_
  simp only [Fin.isLt, if_pos, show ∀ i, ¬ 128 + i < 128 by omega, if_neg, not_false_eq_true, Nat.add_sub_cancel_left]

/-- The transform's imaginary parts. -/
theorem im_at (k2 f : Fin 64) (k1 : Fin 128) : (k0_pay5 v0 v3 v6 v9 v29 : FVec Ideal S4096x256 .f32) (ix2 ⟨k2.val * 64 + f.val, by omega⟩ ⟨128 + k1.val, by omega⟩)
    = ((im (x f) (k2.val + 64 * k1.val) : ℝ) : EReal) := by
  rw [steps]
  pointwise
  simp only [twisted_at v0 v3 v6 v9 x h0 h3 h6 h9, h29, ← EReal.coe_mul, coe_sum]
  refine congrArg _ ?_
  rw [← forward_im]
  refine (sum_two 128 fun q => (if q < 128 then hR (x f) k2.val q else hI (x f) k2.val (q - 128)) * (if q < 128 then
    (if 128 + k1.val < 128 then cs 128 (q * (128 + k1.val)) else -sn 128 (q * (128 + k1.val - 128))) else
    (if 128 + k1.val < 128 then sn 128 ((q - 128) * (128 + k1.val)) else cs 128 ((q - 128) * (128 + k1.val - 128))))).trans ?_
  simp only [Fin.isLt, if_pos, show ∀ i, ¬ 128 + i < 128 by omega, if_neg, not_false_eq_true, Nat.add_sub_cancel_left]

/-- The strengths of the bins below the middle. -/
theorem strength_at (k2 f k1 : Fin 64) : (k0_pay8 v0 v3 v6 v9 v29 : FVec Ideal S64x64x64 .f32) (ix3 k2 f k1) = ((Spec.strength (x f) (64 * k1.val + k2.val) : ℝ) : EReal) := by
  pointwise [k0_pay8, k0_pay6, k0_pay7]
  have e1 := re_at v0 v3 v6 v9 v29 x h0 h3 h6 h9 h29 k2 f ⟨k1.val, by omega⟩
  have e2 := im_at v0 v3 v6 v9 v29 x h0 h3 h6 h9 h29 k2 f ⟨k1.val, by omega⟩
  simp only at e1 e2
  rw [e1, e2, ← EReal.coe_mul, ← EReal.coe_mul, ← EReal.coe_add, Ideal.sqrt_coe,
    if_neg (not_lt.2 (add_nonneg (mul_self_nonneg _) (mul_self_nonneg _))), Nat.add_comm]
  rfl

/-- The strength of the middle bin. -/
theorem middle_at (f : Fin 64) : (k0_pay11 (k0_pay9 v0 v3 v6 v9 v29) (k0_pay10 v0 v3 v6 v9 v29) : FVec Ideal S1x64x1 .f32) (ix3 0 f 0) = ((Spec.strength (x f) 4096 : ℝ) : EReal) := by
  pointwise [k0_pay9, k0_pay10, k0_pay11, k0_pay6, k0_pay7]
  have e1 := re_at v0 v3 v6 v9 v29 x h0 h3 h6 h9 h29 0 f ⟨64, by omega⟩
  have e2 := im_at v0 v3 v6 v9 v29 x h0 h3 h6 h9 h29 0 f ⟨64, by omega⟩
  simp at e1 e2
  rw [e1, e2, ← EReal.coe_mul, ← EReal.coe_mul, ← EReal.coe_add, Ideal.sqrt_coe,
    if_neg (not_lt.2 (add_nonneg (mul_self_nonneg _) (mul_self_nonneg _)))]
  rfl

omit v0 v3 v6 v9 v29 x h0 h3 h6 h9 h29 in
/-- The numbers of the bins. -/
theorem number_at (k2 f k1 : Fin 64) : (k0_pay12 : FVec Ideal S64x64x64 .f32) (ix3 k2 f k1) = (((64 * k1.val + k2.val : ℕ) : ℝ) : EReal) := by
  have e : (k0_pay12 : FVec Ideal S64x64x64 .f32) (ix3 k2 f k1)
      = (((IntOp.addi (IntOp.muli 64#32 (BitVec.ofNat 32 k1.val)) (BitVec.ofNat 32 k2.val)).toInt : ℝ) : EReal) := by
    pointwise [k0_pay12]
    rfl
  have w : IntOp.addi (IntOp.muli 64#32 (BitVec.ofNat 32 k1.val)) (BitVec.ofNat 32 k2.val) = BitVec.ofNat 32 (64 * k1.val + k2.val) := by
    apply BitVec.eq_of_toNat_eq
    simp [IntOp.addi, IntOp.muli, BitVec.toNat_add, BitVec.toNat_mul, BitVec.toNat_ofNat]
  rw [e, w, BitVec.toInt_eq_toNat_of_lt (by rw [BitVec.toNat_ofNat]; omega), BitVec.toNat_ofNat, Nat.mod_eq_of_lt (by omega)]
  norm_cast

end Cert.Forward

end
-- ==== Proof.Inverse.lean ====
/- The kernel's way back: the spectrum under the masks, two small transforms with a twist between them, and the division
   by the length give the seasonal part. -/
module

public import proofs.«01_k».proof.Proof.Forward

@[expose] public section

set_option maxRecDepth 16384

noncomputable section

namespace Cert.Inverse

open Idealize.ShloMosaic Idealize.ShloMosaic.TcCoe Idealize.SL.Sem
open Cert.KernelIdeal Cert.KernelIdeal.Gen
open Cert.Lift Cert.Fourier Cert.Forward Cert.Rounds

/-- The spectrum times the marks, the same marks for the real and the imaginary parts. -/
def masked (z : FVec Ideal S4096x256 .f32) (lo up : Bins) : FVec Ideal S4096x256 .f32 :=
  mulf z (concatenate S4096x256 1
    [⟨S4096x128, concatenate S4096x128 1 [⟨S4096x64, shapeCast S4096x64 lo shapeCasts_S64x64x64_S4096x64⟩, ⟨S4096x64, shapeCast S4096x64 up shapeCasts_S64x64x64_S4096x64⟩] concatenates_S4096x64_S4096x64_S4096x128_d1⟩,
     ⟨S4096x128, concatenate S4096x128 1 [⟨S4096x64, shapeCast S4096x64 lo shapeCasts_S64x64x64_S4096x64⟩, ⟨S4096x64, shapeCast S4096x64 up shapeCasts_S64x64x64_S4096x64⟩] concatenates_S4096x64_S4096x64_S4096x128_d1⟩]
    concatenates_S4096x128_S4096x128_S4096x256_d1)

/-- The small transforms over the quotients of the bins. -/
def gathered (z : FVec Ideal S4096x256 .f32) (v404 : FVec Ideal S256x256 .f32) : FVec Ideal S4096x256 .f32 :=
  matmul (φ₁ := .f32) (φ₂ := .f32) dot_S4096x256_S256x256_S4096x256_1_0_0_1_n_n none z (shapeCast S256x256 v404 shapeCasts_S256x256_S256x256) (constant S4096x256 .f32 0x00000000#32)

/-- Its real part. -/
def front (w : FVec Ideal S4096x256 .f32) : FVec Ideal S64x64x128 .f32 :=
  shapeCast S64x64x128 (extractStridedSlice S4096x128 ![0, 0] w slices_S4096x256_o0_0_S4096x128) shapeCasts_S4096x128_S64x64x128

/-- Its imaginary part. -/
def rear (w : FVec Ideal S4096x256 .f32) : FVec Ideal S64x64x128 .f32 :=
  shapeCast S64x64x128 (extractStridedSlice S4096x128 ![0, 128] w slices_S4096x256_o0_128_S4096x128) shapeCasts_S4096x128_S64x64x128

/-- The twist, real parts above imaginary parts. -/
def turned (v409 v412 : FVec Ideal S64x128 .f32) (w : FVec Ideal S4096x256 .f32) : FVec Ideal S128x8192 .f32 :=
  concatenate S128x8192 0 [⟨S64x8192, shapeCast S64x8192 (subf (mulf (front w) (each v409)) (mulf (rear w) (each v412))) shapeCasts_S64x64x128_S64x8192⟩,
    ⟨S64x8192, shapeCast S64x8192 (addf (mulf (front w) (each v412)) (mulf (rear w) (each v409))) shapeCasts_S64x64x128_S64x8192⟩] concatenates_S64x8192_S64x8192_S128x8192_d0

/-- The small transforms over the residues of the bins. -/
def settled (v430 : FVec Ideal S64x128 .f32) (g : FVec Ideal S128x8192 .f32) : FVec Ideal S64x64x128 .f32 :=
  shapeCast S64x64x128 (matmul (φ₁ := .f32) (φ₂ := .f32) dot_S64x128_S128x8192_S64x8192_1_0_0_1_n_n none (shapeCast S64x128 v430 shapeCasts_S64x128_S64x128) g (constant S64x8192 .f32 0x00000000#32)) shapeCasts_S64x8192_S64x64x128

/-- The whole way back. -/
def back (v31 : FVec Ideal S4096x256 .f32) (lo up : Bins) (v404 : FVec Ideal S256x256 .f32) (v409 v412 v430 : FVec Ideal S64x128 .f32) : FVec Ideal S64x64x128 .f32 :=
  settled v430 (turned v409 v412 (gathered (masked v31 lo up) v404))

/-- The kernel's last value in these steps: the last two rounds' bins are marked on the way. -/
theorem steps (v31 : FVec Ideal S4096x256 .f32) (s6 s7 : Row) (lo up idx : Bins) (v404 : FVec Ideal S256x256 .f32) (v409 v412 v430 : FVec Ideal S64x128 .f32) :
    k0_pay59 v31 s7 lo (k0_pay52 idx) up (k0_pay56 s6 (k0_pay52 idx)) k0_pay57 k0_pay58 v404 v409 v412 v430
      = back v31 lo (mirror idx (mirror idx up s6) s7) v404 v409 v412 v430 := rfl

section values

variable (z : FVec Ideal S4096x256 .f32) (v404 : FVec Ideal S256x256 .f32) (v409 v412 v430 : FVec Ideal S64x128 .f32) (a b : Fin 64 → ℕ → ℝ)
  (hz : ∀ (k2 f : Fin 64) (q : Fin 256) (h : k2.val * 64 + f.val < 4096), z (ix2 ⟨k2.val * 64 + f.val, h⟩ q)
    = ((if q.val < 128 then a f (k2.val + 64 * q.val) else b f (k2.val + 64 * (q.val - 128)) : ℝ) : EReal))
  (h404 : ∀ a b : Fin 256, v404 (ix2 a b) = ((if a.val < 128 then (if b.val < 128 then cs 128 (a.val * b.val) else sn 128 (a.val * (b.val - 128)))
        else (if b.val < 128 then -sn 128 ((a.val - 128) * b.val) else cs 128 ((a.val - 128) * (b.val - 128))) : ℝ) : EReal))
  (h409 : ∀ (a : Fin 64) (b : Fin 128), v409 (ix2 a b) = ((cs 8192 (a.val * b.val) : ℝ) : EReal))
  (h412 : ∀ (a : Fin 64) (b : Fin 128), v412 (ix2 a b) = ((sn 8192 (a.val * b.val) : ℝ) : EReal))
  (h430 : ∀ (a : Fin 64) (b : Fin 128), v430 (ix2 a b) = ((if b.val < 64 then cs 64 (a.val * b.val) else -sn 64 (a.val * (b.val - 64)) : ℝ) : EReal))

include hz h404

/-- The small transforms' values. -/
theorem gathered_at (k2 f : Fin 64) (q : Fin 256) : gathered z v404 (ix2 ⟨k2.val * 64 + f.val, by omega⟩ q)
    = ((if q.val < 128 then pR (a f) (b f) k2.val q.val else pI (a f) (b f) k2.val (q.val - 128) : ℝ) : EReal) := by
  pointwise [gathered]
  simp only [hz, h404, ← EReal.coe_mul, coe_sum]
  refine congrArg _ ?_
  refine (sum_two 128 fun p => (if p < 128 then a f (k2.val + 64 * p) else b f (k2.val + 64 * (p - 128))) * (if p < 128 then
    (if q.val < 128 then cs 128 (p * q.val) else sn 128 (p * (q.val - 128))) else
    (if q.val < 128 then -sn 128 ((p - 128) * q.val) else cs 128 ((p - 128) * (q.val - 128))))).trans ?_
  simp only [Fin.isLt, if_pos, show ∀ i, ¬ 128 + i < 128 by omega, if_neg, not_false_eq_true, Nat.add_sub_cancel_left]
  split <;> rfl

include h409 h412

/-- The twist's values. -/
theorem turned_at (p : Fin 128) (f : Fin 64) (j : Fin 128) : turned v409 v412 (gathered z v404) (ix2 p ⟨f.val * 128 + j.val, by omega⟩)
    = ((if p.val < 64 then qR (a f) (b f) p.val j.val else qI (a f) (b f) (p.val - 64) j.val : ℝ) : EReal) := by
  pointwise [turned, front, rear, each]
  by_cases hp : p.val < 64
  · have e1 := gathered_at z v404 a b hz h404 ⟨p.val, hp⟩ f ⟨j.val, by omega⟩
    have e2 := gathered_at z v404 a b hz h404 ⟨p.val, hp⟩ f ⟨128 + j.val, by omega⟩
    simp only [j.isLt, if_pos, show ¬ 128 + j.val < 128 by omega, if_neg, not_false_eq_true, Nat.add_sub_cancel_left] at e1 e2
    rw [dif_pos hp, if_pos hp, e1, e2, h409, h412, ← EReal.coe_mul, ← EReal.coe_mul, ← EReal.coe_sub]
    rfl
  · have e1 := gathered_at z v404 a b hz h404 ⟨p.val - 64, by omega⟩ f ⟨j.val, by omega⟩
    have e2 := gathered_at z v404 a b hz h404 ⟨p.val - 64, by omega⟩ f ⟨128 + j.val, by omega⟩
    simp only [j.isLt, if_pos, show ¬ 128 + j.val < 128 by omega, if_neg, not_false_eq_true, Nat.add_sub_cancel_left] at e1 e2
    rw [dif_neg hp, if_neg hp, e1, e2, h409, h412, ← EReal.coe_mul, ← EReal.coe_mul, ← EReal.coe_add]
    rfl

include h430

/-- The way back from a spectrum is the sum over all its bins. -/
theorem settled_at (t2 f : Fin 64) (t1 : Fin 128) : settled v430 (turned v409 v412 (gathered z v404)) (ix3 t2 f t1)
    = ((∑ k : Fin 8192, (a f k.val * cs 8192 ((128 * t2.val + t1.val) * k.val) - b f k.val * sn 8192 ((128 * t2.val + t1.val) * k.val)) : ℝ) : EReal) := by
  pointwise [settled]
  simp only [turned_at z v404 v409 v412 a b hz h404 h409 h412, h430, ← EReal.coe_mul, coe_sum]
  refine congrArg _ ?_
  rw [← inverse_factors]
  refine (sum_two 64 fun p => (if p < 64 then cs 64 (t2.val * p) else -sn 64 (t2.val * (p - 64))) *
    (if p < 64 then qR (a f) (b f) p t1.val else qI (a f) (b f) (p - 64) t1.val)).trans ?_
  simp only [Fin.isLt, if_pos, show ∀ i, ¬ 64 + i < 64 by omega, if_neg, not_false_eq_true, Nat.add_sub_cancel_left]

end values

variable (v31 : FVec Ideal S4096x256 .f32) (lo up : Bins) (x : Fin 64 → ℕ → ℝ)
  (hre : ∀ (k2 f : Fin 64) (k1 : Fin 128) (h : k2.val * 64 + f.val < 4096) (h' : k1.val < 256), v31 (ix2 ⟨k2.val * 64 + f.val, h⟩ ⟨k1.val, h'⟩) = ((re (x f) (k2.val + 64 * k1.val) : ℝ) : EReal))
  (him : ∀ (k2 f : Fin 64) (k1 : Fin 128) (h : k2.val * 64 + f.val < 4096) (h' : 128 + k1.val < 256), v31 (ix2 ⟨k2.val * 64 + f.val, h⟩ ⟨128 + k1.val, h'⟩) = ((im (x f) (k2.val + 64 * k1.val) : ℝ) : EReal))
  (hlo : ∀ k2 f k1 : Fin 64, lo (ix3 k2 f k1) = ((Spec.kept (x f) (64 * k1.val + k2.val) 1 : ℝ) : EReal))
  (hup : ∀ k2 f k1 : Fin 64, up (ix3 k2 f k1) = ((Spec.kept (x f) (4096 - (64 * k1.val + k2.val)) 1 : ℝ) : EReal))

/-- The mark of a bin: that of its mirror image if it lies above the middle. -/
def mark (x : ℕ → ℝ) (k : ℕ) : ℝ := if k < 4096 then Spec.kept x k 1 else Spec.kept x (8192 - k) 1

include hlo hup hre him

/-- The spectrum under the marks. -/
theorem masked_at (k2 f : Fin 64) (q : Fin 256) : masked v31 lo up (ix2 ⟨k2.val * 64 + f.val, by omega⟩ q)
    = ((if q.val < 128 then re (x f) (k2.val + 64 * q.val) * mark (x f) (k2.val + 64 * q.val)
        else im (x f) (k2.val + 64 * (q.val - 128)) * mark (x f) (k2.val + 64 * (q.val - 128)) : ℝ) : EReal) := by
  have hm : ∀ (k1 : Fin 128), (if h : k1.val < 64 then lo (ix3 k2 f ⟨k1.val, h⟩) else up (ix3 k2 f ⟨k1.val - 64, by omega⟩))
      = ((mark (x f) (k2.val + 64 * k1.val) : ℝ) : EReal) := fun k1 => by
    unfold mark
    split
    · rw [hlo, if_pos (by omega), Nat.add_comm]
    · rw [hup, if_neg (by omega)]
      exact congrArg (fun n => ((Spec.kept (x f) n 1 : ℝ) : EReal)) (by simp only; omega)
  pointwise [masked]
  by_cases hq : q.val < 128
  · have e := hre k2 f ⟨q.val, hq⟩ (by omega) q.isLt
    have e' := hm ⟨q.val, hq⟩
    simp only at e e'
    rw [dif_pos hq, if_pos hq, EReal.coe_mul, ← e, ← e']
  · have e := him k2 f ⟨q.val - 128, by omega⟩ (by omega) (by simp only; omega)
    have e' := hm ⟨q.val - 128, by omega⟩
    simp only [show 128 + (q.val - 128) = q.val by omega] at e e'
    rw [dif_neg hq, if_neg hq, EReal.coe_mul, ← e, ← e']

/-- The way back, divided by the length, is the seasonal part. -/
theorem season_at (v404 : FVec Ideal S256x256 .f32) (v409 v412 v430 : FVec Ideal S64x128 .f32)
    (h404 : ∀ a b : Fin 256, v404 (ix2 a b) = ((if a.val < 128 then (if b.val < 128 then cs 128 (a.val * b.val) else sn 128 (a.val * (b.val - 128)))
        else (if b.val < 128 then -sn 128 ((a.val - 128) * b.val) else cs 128 ((a.val - 128) * (b.val - 128))) : ℝ) : EReal))
    (h409 : ∀ (a : Fin 64) (b : Fin 128), v409 (ix2 a b) = ((cs 8192 (a.val * b.val) : ℝ) : EReal))
    (h412 : ∀ (a : Fin 64) (b : Fin 128), v412 (ix2 a b) = ((sn 8192 (a.val * b.val) : ℝ) : EReal))
    (h430 : ∀ (a : Fin 64) (b : Fin 128), v430 (ix2 a b) = ((if b.val < 64 then cs 64 (a.val * b.val) else -sn 64 (a.val * (b.val - 64)) : ℝ) : EReal))
    (t2 f : Fin 64) (t1 : Fin 128) :
    (k0_pay1 (back v31 lo up v404 v409 v412 v430) k0_pay60 : FVec Ideal S64x64x128 .f32) (ix3 t2 f t1) = ((Spec.season (x f) (128 * t2.val + t1.val) : ℝ) : EReal) := by
  have e := settled_at (masked v31 lo up) v404 v409 v412 v430 (fun f k => re (x f) k * mark (x f) k) (fun f k => im (x f) k * mark (x f) k)
    (fun k2 f q _ => masked_at v31 lo up x hre him hlo hup k2 f q) h404 h409 h412 h430 t2 f t1
  have w : (k0_pay1 (back v31 lo up v404 v409 v412 v430) k0_pay60 : FVec Ideal S64x64x128 .f32) (ix3 t2 f t1)
      = back v31 lo up v404 v409 v412 v430 (ix3 t2 f t1) * Ideal.ofBits .f32 0x39000000#32 := rfl
  rw [w, bits_inv8192, back, e, ← EReal.coe_mul]
  refine congrArg _ ?_
  rw [← Spec.season_full (x f) _ (mark (x f)) (fun k h => if_pos h) (fun k h _ => if_neg (not_lt.2 h))]
  refine congrArg (· * (1 / 8192 : ℝ)) (Finset.sum_congr rfl fun k _ => ?_)
  unfold wave
  ring

end Cert.Inverse

end
-- ==== Proof.Chain.lean ====
/- The kernel's rounds as it writes them, each cut into several values, are the rounds of `Rounds`. -/
module

public import proofs.«01_k».proof.Proof.Inverse

@[expose] public section

set_option maxRecDepth 16384

noncomputable section

namespace Cert.Chain

open Idealize.ShloMosaic Idealize.ShloMosaic.TcCoe Idealize.SL.Sem
open Cert.KernelIdeal Cert.KernelIdeal.Gen
open Cert.Rounds Cert.Inverse

/-! ## What the values do, whatever they are given -/

section cuts

variable (mag idx t : Bins) (mid b : Row) (v42 v44 : FVec Ideal S64x1 .f32) (w : IVec S1x64x1 1)

/-- The first choice. -/
theorem choice0 : k0_pay15 mag v42 v44 = choice mag k0_pay12 k0_pay13 (k0_pay11 v42 v44) k0_pay14 := rfl
/-- The marks after it. -/
theorem take0 : k0_pay16 mag v42 v44 = take k0_pay12 k0_pay13 (k0_pay15 mag v42 v44) := rfl
/-- The middle bin's mark after it. -/
theorem takeMid0 : k0_pay18 b (k0_pay17 mag v42 v44) = takeMid b (k0_pay15 mag v42 v44) := rfl
/-- The second choice. -/
theorem choice1 : k0_pay19 mag mid idx b t w = choice mag idx t mid (k0_pay18 b w) := rfl
/-- The marks after it. -/
theorem take1 : k0_pay20 mag mid idx b t w = take idx t (k0_pay19 mag mid idx b t w) := rfl
/-- The middle bin's mark after it. -/
theorem takeMid1 : k0_pay21 mag mid idx b t w = takeMid (k0_pay18 b w) (k0_pay19 mag mid idx b t w) := rfl
/-- The strengths still free. -/
theorem free2 : k0_pay22 mag mid idx b t w = free (k0_pay20 mag mid idx b t w) mag := rfl
/-- The third choice. -/
theorem choice2 (s : Bins) (h : k0_pay22 mag mid idx b t w = free s mag) (d : Row) :
    k0_pay24 mid idx d (k0_pay22 mag mid idx b t w) (k0_pay23 mag mid idx b t w) = choice mag idx s mid d := by
  unfold k0_pay23
  rw [h]
  rfl
/-- The marks after it. -/
theorem take2 (e : Bins) (r : FVec Ideal S64x64 .f32) : k0_pay25 mid idx t b e r = take idx t (k0_pay24 mid idx b e r) := rfl
/-- The middle bin's mark after it. -/
theorem takeMid2 (e : Bins) (r : FVec Ideal S64x64 .f32) : k0_pay26 mid idx b e r = takeMid b (k0_pay24 mid idx b e r) := rfl
/-- The strengths still free. -/
theorem free3 (e : Bins) (r : FVec Ideal S64x64 .f32) : k0_pay27 mag mid idx t b e r = free (k0_pay25 mid idx t b e r) mag := rfl
/-- The middle bin's strength if still free. -/
theorem freeMid3 (e : Bins) (r : FVec Ideal S64x64 .f32) : k0_pay28 mid idx b e r = freeMid (k0_pay26 mid idx b e r) mid := rfl
/-- The largest of them. -/
theorem largest3 (e : Bins) (r : FVec Ideal S64x64 .f32) :
    k0_pay29 mag mid idx t b e r = maximumf (largest (k0_pay27 mag mid idx t b e r)) (k0_pay28 mid idx b e r) := rfl
/-- The fourth choice. -/
theorem choice3 : k0_pay30 idx (free t mag) (freeMid b mid) (maximumf (largest (free t mag)) (freeMid b mid)) = choice mag idx t mid b := rfl
/-- The marks after it. -/
theorem take3 (e : Bins) (p q : Row) : k0_pay31 idx t e p q = take idx t (k0_pay30 idx e p q) := rfl
/-- The middle bin's mark after it. -/
theorem takeMid3 (e : Bins) (p q : Row) : k0_pay32 idx b e p q = takeMid b (k0_pay30 idx e p q) := rfl
/-- The strengths still free. -/
theorem free4 (e : Bins) (p q : Row) : k0_pay33 mag idx t e p q = free (k0_pay31 idx t e p q) mag := rfl
/-- The middle bin's strength if still free. -/
theorem freeMid4 (e : Bins) (p q : Row) : k0_pay34 mid idx b e p q = freeMid (k0_pay32 idx b e p q) mid := rfl
/-- The largest of them. -/
theorem largest4 (e : Bins) (p q : Row) :
    k0_pay35 mag mid idx t b e p q = maximumf (largest (k0_pay33 mag idx t e p q)) (k0_pay34 mid idx b e p q) := rfl
/-- The first bin with it below the middle. -/
theorem firstLow4 (e : Bins) (p q : Row) : k0_pay36 mag mid idx t b e p q = firstLow (k0_pay33 mag idx t e p q) idx (k0_pay35 mag mid idx t b e p q) := rfl
/-- The fifth choice. -/
theorem choice4 : k0_pay37 (freeMid b mid) (maximumf (largest (free t mag)) (freeMid b mid))
    (firstLow (free t mag) idx (maximumf (largest (free t mag)) (freeMid b mid))) = choice mag idx t mid b := rfl
/-- The marks after it. -/
theorem take4 (p q r : Row) : k0_pay38 idx t p q r = take idx t (k0_pay37 p q r) := rfl
/-- The middle bin's mark after it. -/
theorem takeMid4 (p q r : Row) : k0_pay39 b p q r = takeMid b (k0_pay37 p q r) := rfl
/-- The sixth choice. -/
theorem choice5 (p q r : Row) : k0_pay40 mag mid idx t b p q r = choice mag idx (k0_pay38 idx t p q r) mid (k0_pay39 b p q r) := rfl
/-- The marks after it. -/
theorem take5 (s : Bins) (p q r : Row) : k0_pay44 s (k0_pay41 mag mid idx t b p q r) k0_pay42 k0_pay43 = take idx s (k0_pay40 mag mid idx t b p q r) := rfl
/-- The middle bin's mark after it. -/
theorem takeMid5 (n : Row) : k0_pay45 b n = takeMid b n := rfl
/-- The seventh choice. -/
theorem choice6 (n : Row) (p : IVec S64x64x64 1) (o z : Bins) : k0_pay46 mag mid idx t b n p o z = choice mag idx (k0_pay44 t p o z) mid (k0_pay45 b n) := rfl
/-- The marks after it. -/
theorem take6 (n : Row) (p : IVec S64x64x64 1) (o z : Bins) : k0_pay47 mag mid idx t b n p o z = take idx (k0_pay44 t p o z) (k0_pay46 mag mid idx t b n p o z) := rfl
/-- The middle bin's mark after it. -/
theorem takeMid6 (n : Row) (p : IVec S64x64x64 1) (o z : Bins) : k0_pay48 mag mid idx t b n p o z = takeMid (k0_pay45 b n) (k0_pay46 mag mid idx t b n p o z) := rfl
/-- The eighth choice. -/
theorem choice7 (s : Bins) (c : Row) (n : Row) (p : IVec S64x64x64 1) (o z : Bins) (h : k0_pay47 mag mid idx t b n p o z = s) :
    k0_pay50 mag mid idx c (k0_pay49 mag mid idx t b n p o z) = choice mag idx s mid c := by
  unfold k0_pay49
  rw [h]
  rfl
/-- The marks after it. -/
theorem take7 (c : Row) (p : IVec S64x64x64 1) : k0_pay51 mag mid idx t c p = take idx t (k0_pay50 mag mid idx c p) := rfl
/-- The first bin above the middle. -/
theorem mirror0 (n : Row) : k0_pay53 idx n = mirror idx (broadcast S64x64x64 (Scalar.ofBits .f32 0x00000000#32)) n := rfl
/-- The next five. -/
theorem mirror5 (u : Bins) (n1 n2 n3 n4 n5 : Row) : k0_pay55 n2 n3 n4 n5 (k0_pay52 idx) u (k0_pay54 n1)
    = mirror idx (mirror idx (mirror idx (mirror idx (mirror idx u n1) n2) n3) n4) n5 := rfl

end cuts

/-! ## The rounds of one row -/

variable (x0 : Vec Ideal S1x64x64x128 .f32) (x1 : Vec Ideal S128x64 .f32) (x2 x3 : Vec Ideal S64x128 .f32) (x4 x5 : Vec Ideal S256x256 .f32)
  (x6 x7 x8 : Vec Ideal S64x128 .f32)

/-- The marks after `r` rounds on this row. -/
def marks (r : ℕ) : Bins := (state (k0_pay61 x0 x1 x2 x3 x4 x5 x6 x7 x8) (k0_pay65 x0 x1 x2 x3 x4 x5 x6 x7 x8) (k0_pay64 x0 x1 x2 x3 x4 x5 x6 x7 x8) r).1

/-- The middle bin's mark after `r` rounds on this row. -/
def marksMid (r : ℕ) : Row := (state (k0_pay61 x0 x1 x2 x3 x4 x5 x6 x7 x8) (k0_pay65 x0 x1 x2 x3 x4 x5 x6 x7 x8) (k0_pay64 x0 x1 x2 x3 x4 x5 x6 x7 x8) r).2

/-- The bin of round `r` on this row. -/
def pick (r : ℕ) : Row := sel (k0_pay61 x0 x1 x2 x3 x4 x5 x6 x7 x8) (k0_pay65 x0 x1 x2 x3 x4 x5 x6 x7 x8) (k0_pay64 x0 x1 x2 x3 x4 x5 x6 x7 x8) r

/-- The bin of a round is the choice among the bins still free. -/
theorem pick_eq (r : ℕ) : pick x0 x1 x2 x3 x4 x5 x6 x7 x8 r = choice (k0_pay61 x0 x1 x2 x3 x4 x5 x6 x7 x8) (k0_pay65 x0 x1 x2 x3 x4 x5 x6 x7 x8) (marks x0 x1 x2 x3 x4 x5 x6 x7 x8 r) (k0_pay64 x0 x1 x2 x3 x4 x5 x6 x7 x8) (marksMid x0 x1 x2 x3 x4 x5 x6 x7 x8 r) := rfl

/-- A round takes its bin. -/
theorem marks_succ (r : ℕ) : marks x0 x1 x2 x3 x4 x5 x6 x7 x8 (r + 1) = take (k0_pay65 x0 x1 x2 x3 x4 x5 x6 x7 x8) (marks x0 x1 x2 x3 x4 x5 x6 x7 x8 r) (pick x0 x1 x2 x3 x4 x5 x6 x7 x8 r) := rfl

/-- A round takes its bin if it is the middle one. -/
theorem marksMid_succ (r : ℕ) : marksMid x0 x1 x2 x3 x4 x5 x6 x7 x8 (r + 1) = takeMid (marksMid x0 x1 x2 x3 x4 x5 x6 x7 x8 r) (pick x0 x1 x2 x3 x4 x5 x6 x7 x8 r) := rfl

/-- Round 0. -/
theorem pick0 : k0_pay15 (k0_pay61 x0 x1 x2 x3 x4 x5 x6 x7 x8) (k0_pay62 x0 x1 x2 x3 x4 x5 x6 x7 x8) (k0_pay63 x0 x1 x2 x3 x4 x5 x6 x7 x8) = (pick x0 x1 x2 x3 x4 x5 x6 x7 x8 0) := choice0 _ _ _

/-- The marks after one round. -/
theorem marks1 : k0_pay67 x0 x1 x2 x3 x4 x5 x6 x7 x8 = (marks x0 x1 x2 x3 x4 x5 x6 x7 x8 1) := (take0 _ _ _).trans (congrArg (take k0_pay12 k0_pay13) (pick0 x0 x1 x2 x3 x4 x5 x6 x7 x8))

/-- The middle mark after one round. -/
theorem mid1 : k0_pay18 (k0_pay66 x0 x1 x2 x3 x4 x5 x6 x7 x8) (k0_pay68 x0 x1 x2 x3 x4 x5 x6 x7 x8) = (marksMid x0 x1 x2 x3 x4 x5 x6 x7 x8 1) := (takeMid0 _ _ _ _).trans (congrArg (takeMid k0_pay14) (pick0 x0 x1 x2 x3 x4 x5 x6 x7 x8))

/-- Round 1. -/
theorem pick1 : k0_pay19 (k0_pay61 x0 x1 x2 x3 x4 x5 x6 x7 x8) (k0_pay64 x0 x1 x2 x3 x4 x5 x6 x7 x8) (k0_pay65 x0 x1 x2 x3 x4 x5 x6 x7 x8) (k0_pay66 x0 x1 x2 x3 x4 x5 x6 x7 x8) (k0_pay67 x0 x1 x2 x3 x4 x5 x6 x7 x8) (k0_pay68 x0 x1 x2 x3 x4 x5 x6 x7 x8) = (pick x0 x1 x2 x3 x4 x5 x6 x7 x8 1) := by
  rw [choice1, marks1, mid1, pick_eq]

/-- The marks after two rounds. -/
theorem marks2 : k0_pay69 x0 x1 x2 x3 x4 x5 x6 x7 x8 = (marks x0 x1 x2 x3 x4 x5 x6 x7 x8 2) := by
  rw [marks_succ, ← pick1, ← marks1]; exact take1 _ _ _ _ _ _

/-- The middle mark after two rounds. -/
theorem mid2 : k0_pay70 x0 x1 x2 x3 x4 x5 x6 x7 x8 = (marksMid x0 x1 x2 x3 x4 x5 x6 x7 x8 2) := by
  rw [marksMid_succ, ← pick1, ← mid1]; exact takeMid1 _ _ _ _ _ _

/-- Round 2. -/
theorem pick2 : k0_pay24 (k0_pay64 x0 x1 x2 x3 x4 x5 x6 x7 x8) (k0_pay65 x0 x1 x2 x3 x4 x5 x6 x7 x8) (k0_pay70 x0 x1 x2 x3 x4 x5 x6 x7 x8) (k0_pay71 x0 x1 x2 x3 x4 x5 x6 x7 x8) (k0_pay72 x0 x1 x2 x3 x4 x5 x6 x7 x8) = (pick x0 x1 x2 x3 x4 x5 x6 x7 x8 2) := by
  rw [pick_eq, ← mid2, ← marks2]; exact choice2 _ _ _ _ _ _ _ (free2 _ _ _ _ _ _) _

/-- The marks after three rounds. -/
theorem marks3 : k0_pay73 x0 x1 x2 x3 x4 x5 x6 x7 x8 = (marks x0 x1 x2 x3 x4 x5 x6 x7 x8 3) := by
  rw [marks_succ, ← pick2, ← marks2]; exact take2 _ _ _ _ _ _

/-- The middle mark after three rounds. -/
theorem mid3 : k0_pay74 x0 x1 x2 x3 x4 x5 x6 x7 x8 = (marksMid x0 x1 x2 x3 x4 x5 x6 x7 x8 3) := by
  rw [marksMid_succ, ← pick2, ← mid2]; exact takeMid2 _ _ _ _ _

/-- The free strengths after three rounds. -/
theorem free75 : k0_pay75 x0 x1 x2 x3 x4 x5 x6 x7 x8 = free (marks x0 x1 x2 x3 x4 x5 x6 x7 x8 3) (k0_pay61 x0 x1 x2 x3 x4 x5 x6 x7 x8) := by
  rw [← marks3]; exact free3 _ _ _ _ _ _ _

/-- The free middle strength after three rounds. -/
theorem free76 : k0_pay76 x0 x1 x2 x3 x4 x5 x6 x7 x8 = freeMid (marksMid x0 x1 x2 x3 x4 x5 x6 x7 x8 3) (k0_pay64 x0 x1 x2 x3 x4 x5 x6 x7 x8) := by
  rw [← mid3]; exact freeMid3 _ _ _ _ _

/-- The largest after three rounds. -/
theorem largest77 : k0_pay77 x0 x1 x2 x3 x4 x5 x6 x7 x8 = maximumf (largest (free (marks x0 x1 x2 x3 x4 x5 x6 x7 x8 3) (k0_pay61 x0 x1 x2 x3 x4 x5 x6 x7 x8))) (freeMid (marksMid x0 x1 x2 x3 x4 x5 x6 x7 x8 3) (k0_pay64 x0 x1 x2 x3 x4 x5 x6 x7 x8)) := by
  rw [← free75, ← free76]; exact largest3 _ _ _ _ _ _ _

/-- Round 3. -/
theorem pick3 : k0_pay30 (k0_pay65 x0 x1 x2 x3 x4 x5 x6 x7 x8) (k0_pay75 x0 x1 x2 x3 x4 x5 x6 x7 x8) (k0_pay76 x0 x1 x2 x3 x4 x5 x6 x7 x8) (k0_pay77 x0 x1 x2 x3 x4 x5 x6 x7 x8) = (pick x0 x1 x2 x3 x4 x5 x6 x7 x8 3) := by
  rw [free75, free76, largest77]; exact choice3 _ _ _ _ _

/-- The marks after four rounds. -/
theorem marks4 : k0_pay78 x0 x1 x2 x3 x4 x5 x6 x7 x8 = (marks x0 x1 x2 x3 x4 x5 x6 x7 x8 4) := by
  rw [marks_succ, ← pick3, ← marks3]; exact take3 _ _ _ _ _

/-- The middle mark after four rounds. -/
theorem mid4 : k0_pay79 x0 x1 x2 x3 x4 x5 x6 x7 x8 = (marksMid x0 x1 x2 x3 x4 x5 x6 x7 x8 4) := by
  rw [marksMid_succ, ← pick3, ← mid3]; exact takeMid3 _ _ _ _ _

/-- The free strengths after four rounds. -/
theorem free33 : k0_pay33 (k0_pay61 x0 x1 x2 x3 x4 x5 x6 x7 x8) (k0_pay65 x0 x1 x2 x3 x4 x5 x6 x7 x8) (k0_pay73 x0 x1 x2 x3 x4 x5 x6 x7 x8) (k0_pay75 x0 x1 x2 x3 x4 x5 x6 x7 x8) (k0_pay76 x0 x1 x2 x3 x4 x5 x6 x7 x8) (k0_pay77 x0 x1 x2 x3 x4 x5 x6 x7 x8) = free (marks x0 x1 x2 x3 x4 x5 x6 x7 x8 4) (k0_pay61 x0 x1 x2 x3 x4 x5 x6 x7 x8) := by
  rw [← marks4]; exact free4 _ _ _ _ _ _

/-- The free middle strength after four rounds. -/
theorem free80 : k0_pay80 x0 x1 x2 x3 x4 x5 x6 x7 x8 = freeMid (marksMid x0 x1 x2 x3 x4 x5 x6 x7 x8 4) (k0_pay64 x0 x1 x2 x3 x4 x5 x6 x7 x8) := by
  rw [← mid4]; exact freeMid4 _ _ _ _ _ _

/-- The largest after four rounds. -/
theorem largest81 : k0_pay81 x0 x1 x2 x3 x4 x5 x6 x7 x8 = maximumf (largest (free (marks x0 x1 x2 x3 x4 x5 x6 x7 x8 4) (k0_pay61 x0 x1 x2 x3 x4 x5 x6 x7 x8))) (freeMid (marksMid x0 x1 x2 x3 x4 x5 x6 x7 x8 4) (k0_pay64 x0 x1 x2 x3 x4 x5 x6 x7 x8)) := by
  rw [← free33, ← free80]; exact largest4 _ _ _ _ _ _ _ _

/-- The first bin with it below the middle. -/
theorem first82 : k0_pay82 x0 x1 x2 x3 x4 x5 x6 x7 x8 = firstLow (free (marks x0 x1 x2 x3 x4 x5 x6 x7 x8 4) (k0_pay61 x0 x1 x2 x3 x4 x5 x6 x7 x8)) (k0_pay65 x0 x1 x2 x3 x4 x5 x6 x7 x8) (maximumf (largest (free (marks x0 x1 x2 x3 x4 x5 x6 x7 x8 4) (k0_pay61 x0 x1 x2 x3 x4 x5 x6 x7 x8))) (freeMid (marksMid x0 x1 x2 x3 x4 x5 x6 x7 x8 4) (k0_pay64 x0 x1 x2 x3 x4 x5 x6 x7 x8))) := by
  rw [← largest81, ← free33]; exact firstLow4 _ _ _ _ _ _ _ _

/-- Round 4. -/
theorem pick4 : k0_pay37 (k0_pay80 x0 x1 x2 x3 x4 x5 x6 x7 x8) (k0_pay81 x0 x1 x2 x3 x4 x5 x6 x7 x8) (k0_pay82 x0 x1 x2 x3 x4 x5 x6 x7 x8) = (pick x0 x1 x2 x3 x4 x5 x6 x7 x8 4) := by
  rw [free80, largest81, first82]; exact choice4 _ _ _ _ _

/-- The marks after five rounds. -/
theorem marks5 : k0_pay83 x0 x1 x2 x3 x4 x5 x6 x7 x8 = (marks x0 x1 x2 x3 x4 x5 x6 x7 x8 5) := by
  rw [marks_succ, ← pick4, ← marks4]; exact take4 _ _ _ _ _

/-- The middle mark after five rounds. -/
theorem mid5 : k0_pay84 x0 x1 x2 x3 x4 x5 x6 x7 x8 = (marksMid x0 x1 x2 x3 x4 x5 x6 x7 x8 5) := by
  rw [marksMid_succ, ← pick4, ← mid4]; exact takeMid4 _ _ _ _

/-- Round 5. -/
theorem pick5 : k0_pay85 x0 x1 x2 x3 x4 x5 x6 x7 x8 = (pick x0 x1 x2 x3 x4 x5 x6 x7 x8 5) := by
  rw [pick_eq, ← marks5, ← mid5]; exact choice5 _ _ _ _ _ _ _ _

/-- The marks after six rounds. -/
theorem marks6 : k0_pay44 (k0_pay83 x0 x1 x2 x3 x4 x5 x6 x7 x8) (k0_pay86 x0 x1 x2 x3 x4 x5 x6 x7 x8) (k0_pay87 x0 x1 x2 x3 x4 x5 x6 x7 x8) (k0_pay88 x0 x1 x2 x3 x4 x5 x6 x7 x8) = (marks x0 x1 x2 x3 x4 x5 x6 x7 x8 6) := by
  rw [marks_succ, ← pick5, ← marks5]; exact take5 _ _ _ _ _ _ _ _ _

/-- The middle mark after six rounds. -/
theorem mid6 : k0_pay45 (k0_pay84 x0 x1 x2 x3 x4 x5 x6 x7 x8) (k0_pay85 x0 x1 x2 x3 x4 x5 x6 x7 x8) = (marksMid x0 x1 x2 x3 x4 x5 x6 x7 x8 6) := by
  rw [marksMid_succ, ← pick5, ← mid5]; exact takeMid5 _ _

/-- Round 6. -/
theorem pick6 : k0_pay46 (k0_pay61 x0 x1 x2 x3 x4 x5 x6 x7 x8) (k0_pay64 x0 x1 x2 x3 x4 x5 x6 x7 x8) (k0_pay65 x0 x1 x2 x3 x4 x5 x6 x7 x8) (k0_pay83 x0 x1 x2 x3 x4 x5 x6 x7 x8) (k0_pay84 x0 x1 x2 x3 x4 x5 x6 x7 x8) (k0_pay85 x0 x1 x2 x3 x4 x5 x6 x7 x8) (k0_pay86 x0 x1 x2 x3 x4 x5 x6 x7 x8) (k0_pay87 x0 x1 x2 x3 x4 x5 x6 x7 x8) (k0_pay88 x0 x1 x2 x3 x4 x5 x6 x7 x8) = (pick x0 x1 x2 x3 x4 x5 x6 x7 x8 6) := by
  rw [pick_eq, ← marks6, ← mid6]; exact choice6 _ _ _ _ _ _ _ _ _

/-- The marks after seven rounds. -/
theorem marks7 : k0_pay47 (k0_pay61 x0 x1 x2 x3 x4 x5 x6 x7 x8) (k0_pay64 x0 x1 x2 x3 x4 x5 x6 x7 x8) (k0_pay65 x0 x1 x2 x3 x4 x5 x6 x7 x8) (k0_pay83 x0 x1 x2 x3 x4 x5 x6 x7 x8) (k0_pay84 x0 x1 x2 x3 x4 x5 x6 x7 x8) (k0_pay85 x0 x1 x2 x3 x4 x5 x6 x7 x8) (k0_pay86 x0 x1 x2 x3 x4 x5 x6 x7 x8) (k0_pay87 x0 x1 x2 x3 x4 x5 x6 x7 x8) (k0_pay88 x0 x1 x2 x3 x4 x5 x6 x7 x8) = (marks x0 x1 x2 x3 x4 x5 x6 x7 x8 7) := by
  rw [marks_succ, ← pick6, ← marks6]; exact take6 _ _ _ _ _ _ _ _ _

/-- The middle mark after seven rounds. -/
theorem mid7 : k0_pay89 x0 x1 x2 x3 x4 x5 x6 x7 x8 = (marksMid x0 x1 x2 x3 x4 x5 x6 x7 x8 7) := by
  rw [marksMid_succ, ← pick6, ← mid6]; exact takeMid6 _ _ _ _ _ _ _ _ _

/-- Round 7. -/
theorem pick7 : k0_pay50 (k0_pay61 x0 x1 x2 x3 x4 x5 x6 x7 x8) (k0_pay64 x0 x1 x2 x3 x4 x5 x6 x7 x8) (k0_pay65 x0 x1 x2 x3 x4 x5 x6 x7 x8) (k0_pay89 x0 x1 x2 x3 x4 x5 x6 x7 x8) (k0_pay90 x0 x1 x2 x3 x4 x5 x6 x7 x8) = (pick x0 x1 x2 x3 x4 x5 x6 x7 x8 7) := by
  rw [pick_eq, ← mid7]; exact choice7 _ _ _ _ _ _ _ _ _ _ _ (marks7 x0 x1 x2 x3 x4 x5 x6 x7 x8)

/-- The marks after all rounds. -/
theorem marks8 : k0_pay51 (k0_pay61 x0 x1 x2 x3 x4 x5 x6 x7 x8) (k0_pay64 x0 x1 x2 x3 x4 x5 x6 x7 x8) (k0_pay65 x0 x1 x2 x3 x4 x5 x6 x7 x8) (k0_pay47 (k0_pay61 x0 x1 x2 x3 x4 x5 x6 x7 x8) (k0_pay64 x0 x1 x2 x3 x4 x5 x6 x7 x8) (k0_pay65 x0 x1 x2 x3 x4 x5 x6 x7 x8) (k0_pay83 x0 x1 x2 x3 x4 x5 x6 x7 x8) (k0_pay84 x0 x1 x2 x3 x4 x5 x6 x7 x8) (k0_pay85 x0 x1 x2 x3 x4 x5 x6 x7 x8) (k0_pay86 x0 x1 x2 x3 x4 x5 x6 x7 x8) (k0_pay87 x0 x1 x2 x3 x4 x5 x6 x7 x8) (k0_pay88 x0 x1 x2 x3 x4 x5 x6 x7 x8)) (k0_pay89 x0 x1 x2 x3 x4 x5 x6 x7 x8) (k0_pay90 x0 x1 x2 x3 x4 x5 x6 x7 x8) = (marks x0 x1 x2 x3 x4 x5 x6 x7 x8 8) := by
  rw [take7, pick7, marks7]; rfl

/-- The marks above the middle after six rounds. -/
theorem ups6 : k0_pay55 (k0_pay24 (k0_pay64 x0 x1 x2 x3 x4 x5 x6 x7 x8) (k0_pay65 x0 x1 x2 x3 x4 x5 x6 x7 x8) (k0_pay70 x0 x1 x2 x3 x4 x5 x6 x7 x8) (k0_pay71 x0 x1 x2 x3 x4 x5 x6 x7 x8) (k0_pay72 x0 x1 x2 x3 x4 x5 x6 x7 x8)) (k0_pay30 (k0_pay65 x0 x1 x2 x3 x4 x5 x6 x7 x8) (k0_pay75 x0 x1 x2 x3 x4 x5 x6 x7 x8) (k0_pay76 x0 x1 x2 x3 x4 x5 x6 x7 x8) (k0_pay77 x0 x1 x2 x3 x4 x5 x6 x7 x8)) (k0_pay37 (k0_pay80 x0 x1 x2 x3 x4 x5 x6 x7 x8) (k0_pay81 x0 x1 x2 x3 x4 x5 x6 x7 x8) (k0_pay82 x0 x1 x2 x3 x4 x5 x6 x7 x8)) (k0_pay85 x0 x1 x2 x3 x4 x5 x6 x7 x8) (k0_pay91 x0 x1 x2 x3 x4 x5 x6 x7 x8) (k0_pay53 (k0_pay65 x0 x1 x2 x3 x4 x5 x6 x7 x8) (k0_pay15 (k0_pay61 x0 x1 x2 x3 x4 x5 x6 x7 x8) (k0_pay62 x0 x1 x2 x3 x4 x5 x6 x7 x8) (k0_pay63 x0 x1 x2 x3 x4 x5 x6 x7 x8))) (k0_pay54 (k0_pay19 (k0_pay61 x0 x1 x2 x3 x4 x5 x6 x7 x8) (k0_pay64 x0 x1 x2 x3 x4 x5 x6 x7 x8) (k0_pay65 x0 x1 x2 x3 x4 x5 x6 x7 x8) (k0_pay66 x0 x1 x2 x3 x4 x5 x6 x7 x8) (k0_pay67 x0 x1 x2 x3 x4 x5 x6 x7 x8) (k0_pay68 x0 x1 x2 x3 x4 x5 x6 x7 x8))) = ups (k0_pay61 x0 x1 x2 x3 x4 x5 x6 x7 x8) (k0_pay65 x0 x1 x2 x3 x4 x5 x6 x7 x8) (k0_pay64 x0 x1 x2 x3 x4 x5 x6 x7 x8) 6 := by
  rw [pick0, pick1, pick2, pick3, pick4, pick5]; exact mirror5 _ _ _ _ _ _ _

/-- The kernel's last value before the division: the way back from its transform under the marks of the eight rounds. -/
theorem last_eq : k0_pay92 x0 x1 x2 x3 x4 x5 x6 x7 x8 = back (k0_pay5 (View.ld x0 r0_0) (View.ld x1 r0_1) (View.ld x2 r0_2) (View.ld x3 r0_2) (View.ld x4 r0_3))
    (state (k0_pay61 x0 x1 x2 x3 x4 x5 x6 x7 x8) (k0_pay65 x0 x1 x2 x3 x4 x5 x6 x7 x8) (k0_pay64 x0 x1 x2 x3 x4 x5 x6 x7 x8) 8).1 (ups (k0_pay61 x0 x1 x2 x3 x4 x5 x6 x7 x8) (k0_pay65 x0 x1 x2 x3 x4 x5 x6 x7 x8) (k0_pay64 x0 x1 x2 x3 x4 x5 x6 x7 x8) 8) (View.ld x5 r0_3) (View.ld x6 r0_2) (View.ld x7 r0_2) (View.ld x8 r0_2) := by
  unfold k0_pay92
  rw [ups6, marks8, pick7, pick6]
  exact steps _ _ _ _ _ _ _ _ _ _

end Cert.Chain

end
-- ==== Proof.Row.lean ====
/- The kernel on one row: from its blocks' entries to the entries of its two results. -/
module

public import proofs.«01_k».proof.Proof.Chain

@[expose] public section

set_option maxRecDepth 16384

noncomputable section

namespace Cert.Row

open Idealize.ShloMosaic Idealize.ShloMosaic.TcCoe Idealize.SL.Sem
open Cert.KernelIdeal Cert.KernelIdeal.Gen
open Cert.Fourier

/-- Reading the whole of a block is the block. -/
theorem ld0 (x : Vec Ideal S1x64x64x128 .f32) (i f : Fin 64) (j : Fin 128) : (show FVec Ideal S1x64x64x128 .f32 from View.ld x r0_0) (ix4 0 i f j) = x (ix4 0 i f j) := by
  pointwise
/-- The same of the first table. -/
theorem ld1 (x : Vec Ideal S128x64 .f32) (a : Fin 128) (b : Fin 64) : (show FVec Ideal S128x64 .f32 from View.ld x r0_1) (ix2 a b) = x (ix2 a b) := by
  pointwise
/-- The same of the tables of the twists. -/
theorem ld2 (x : Vec Ideal S64x128 .f32) (a : Fin 64) (b : Fin 128) : (show FVec Ideal S64x128 .f32 from View.ld x r0_2) (ix2 a b) = x (ix2 a b) := by
  pointwise
/-- The same of the square tables. -/
theorem ld3 (x : Vec Ideal S256x256 .f32) (a b : Fin 256) : (show FVec Ideal S256x256 .f32 from View.ld x r0_3) (ix2 a b) = x (ix2 a b) := by
  pointwise

/-- The last reshape keeps every value. -/
theorem wrapped (w z : FVec Ideal S64x64x128 .f32) (i f : Fin 64) (j : Fin 128) :
    (k0_pay2 w z : FVec Ideal S1x64x64x128 .f32) (ix4 0 i f j) = (k0_pay1 w z : FVec Ideal S64x64x128 .f32) (ix3 i f j) := by
  pointwise [k0_pay2]
/-- The first result's reshapes keep every value. -/
theorem less (x : FVec Ideal S1x64x64x128 .f32) (w z : FVec Ideal S64x64x128 .f32) (i f : Fin 64) (j : Fin 128) :
    (k0_pay3 (k0_pay4 x) w z : FVec Ideal S1x64x64x128 .f32) (ix4 0 i f j) = x (ix4 0 i f j) - (k0_pay1 w z : FVec Ideal S64x64x128 .f32) (ix3 i f j) := by
  pointwise [k0_pay3, k0_pay4]

variable (x0 : FVec Ideal S1x64x64x128 .f32) (x1 : FVec Ideal S128x64 .f32) (x2 x3 : FVec Ideal S64x128 .f32) (x4 x5 : FVec Ideal S256x256 .f32)
  (x6 x7 x8 : FVec Ideal S64x128 .f32) (x : Fin 64 → ℕ → ℝ)
  (h0 : ∀ (i f : Fin 64) (j : Fin 128), x0 (ix4 0 i f j) = ((x f (128 * i.val + j.val) : ℝ) : EReal))
  (h1 : ∀ (a : Fin 128) (b : Fin 64), x1 (ix2 a b) = ((if a.val < 64 then cs 64 (a.val * b.val) else -sn 64 ((a.val - 64) * b.val) : ℝ) : EReal))
  (h2 : ∀ (a : Fin 64) (b : Fin 128), x2 (ix2 a b) = ((cs 8192 (a.val * b.val) : ℝ) : EReal))
  (h3 : ∀ (a : Fin 64) (b : Fin 128), x3 (ix2 a b) = ((-sn 8192 (a.val * b.val) : ℝ) : EReal))
  (h4 : ∀ a b : Fin 256, x4 (ix2 a b) = ((if a.val < 128 then (if b.val < 128 then cs 128 (a.val * b.val) else -sn 128 (a.val * (b.val - 128)))
        else (if b.val < 128 then sn 128 ((a.val - 128) * b.val) else cs 128 ((a.val - 128) * (b.val - 128))) : ℝ) : EReal))
  (h5 : ∀ a b : Fin 256, x5 (ix2 a b) = ((if a.val < 128 then (if b.val < 128 then cs 128 (a.val * b.val) else sn 128 (a.val * (b.val - 128)))
        else (if b.val < 128 then -sn 128 ((a.val - 128) * b.val) else cs 128 ((a.val - 128) * (b.val - 128))) : ℝ) : EReal))
  (h6 : ∀ (a : Fin 64) (b : Fin 128), x6 (ix2 a b) = ((cs 8192 (a.val * b.val) : ℝ) : EReal))
  (h7 : ∀ (a : Fin 64) (b : Fin 128), x7 (ix2 a b) = ((sn 8192 (a.val * b.val) : ℝ) : EReal))
  (h8 : ∀ (a : Fin 64) (b : Fin 128), x8 (ix2 a b) = ((if b.val < 64 then cs 64 (a.val * b.val) else -sn 64 (a.val * (b.val - 64)) : ℝ) : EReal))

include h0 h1 h2 h3 h4 h5 h6 h7 h8

/-- The kernel's seasonal values. -/
theorem value_at (i f : Fin 64) (j : Fin 128) :
    (k0_pay1 (k0_pay92 (F := Ideal) x0 x1 x2 x3 x4 x5 x6 x7 x8) (k0_pay93 (F := Ideal) x0 x1 x2 x3 x4 x5 x6 x7 x8) : FVec Ideal S64x64x128 .f32) (ix3 i f j)
      = ((Spec.season (x f) (128 * i.val + j.val) : ℝ) : EReal) := by
  have g0 := fun i f j => (ld0 x0 i f j).trans (h0 i f j)
  have g1 := fun a b => (ld1 x1 a b).trans (h1 a b)
  have g2 := fun a b => (ld2 x2 a b).trans (h2 a b)
  have g3 := fun a b => (ld2 x3 a b).trans (h3 a b)
  have g4 := fun a b => (ld3 x4 a b).trans (h4 a b)
  have fin := fun k2 f k1 => Rounds.final_spec _ _ _ f (x f) (fun k2 k1 => Forward.strength_at _ _ _ _ _ x g0 g1 g2 g3 g4 k2 f k1)
    (Forward.middle_at _ _ _ _ _ x g0 g1 g2 g3 g4 f) (fun k2 k1 => Forward.number_at k2 f k1) k2 k1
  rw [Chain.last_eq]
  exact Inverse.season_at _ _ _ x (fun k2 f k1 _ _ => Forward.re_at _ _ _ _ _ x g0 g1 g2 g3 g4 k2 f k1) (fun k2 f k1 _ _ => Forward.im_at _ _ _ _ _ x g0 g1 g2 g3 g4 k2 f k1)
    (fun k2 f k1 => (fin k2 f k1).1) (fun k2 f k1 => (fin k2 f k1).2) _ _ _ _
    (fun a b => (ld3 x5 a b).trans (h5 a b)) (fun a b => (ld2 x6 a b).trans (h6 a b)) (fun a b => (ld2 x7 a b).trans (h7 a b))
    (fun a b => (ld2 x8 a b).trans (h8 a b)) i f j

/-- The kernel's second result on this row. -/
theorem second_at (i f : Fin 64) (j : Fin 128) :
    (k0_pay2 (k0_pay92 (F := Ideal) x0 x1 x2 x3 x4 x5 x6 x7 x8) (k0_pay93 (F := Ideal) x0 x1 x2 x3 x4 x5 x6 x7 x8) : FVec Ideal S1x64x64x128 .f32) (ix4 0 i f j)
      = ((Spec.season (x f) (128 * i.val + j.val) : ℝ) : EReal) := by
  exact (wrapped _ _ i f j).trans (value_at x0 x1 x2 x3 x4 x5 x6 x7 x8 x h0 h1 h2 h3 h4 h5 h6 h7 h8 i f j)

/-- The kernel's first result on this row. -/
theorem first_at (i f : Fin 64) (j : Fin 128) :
    (k0_pay3 (k0_pay4 x0) (k0_pay92 (F := Ideal) x0 x1 x2 x3 x4 x5 x6 x7 x8) (k0_pay93 (F := Ideal) x0 x1 x2 x3 x4 x5 x6 x7 x8) : FVec Ideal S1x64x64x128 .f32) (ix4 0 i f j)
      = ((x f (128 * i.val + j.val) - Spec.season (x f) (128 * i.val + j.val) : ℝ) : EReal) := by
  refine (less _ _ _ i f j).trans ?_
  rw [value_at x0 x1 x2 x3 x4 x5 x6 x7 x8 x h0 h1 h2 h3 h4 h5 h6 h7 h8 i f j, EReal.coe_sub, ← h0]

end Cert.Row

end
-- ==== Proof.Tables.lean ====
/- The kernel's tables over the real numbers: the cosines and sines that the host computes before the launch, and the
   signal as the launch is handed it. -/
module

public import proofs.«01_k».proof.Proof.Gen.KernelIdeal.Frame
public import Idealize.ShloMosaic.Lib.Pipeline.ValueKit
public import proofs.«01_k».proof.Proof.Lift

@[expose] public section

set_option maxRecDepth 16384

noncomputable section

namespace Cert.Tables

open Idealize.ShloMosaic Idealize.ShloMosaic.TcCoe Idealize.SL.Sem
open Cert.KernelIdeal Cert.KernelIdeal.Gen
open Cert.Lift Cert.Fourier

/-- A full turn, as the host computes it. -/
theorem turn' : Ideal.ofBits .f32 1090519040#32 * Ideal.atan 1 = ((2 * Real.pi : ℝ) : EReal) := by
  rw [← turn, bits_1]
  rfl

/-- A cosine of the tables. -/
theorem cos_entry (N : ℕ) (w : BitVec 32) (hw : Ideal.ofBits .f32 w = ((1 / (N : ℝ) : ℝ) : EReal)) (a b : ℕ) (hab : a * b < 2 ^ 31) (hN0 : 0 < N) (hN : N < 2 ^ 31) :
    Ideal.cos (FloatOps.sitofp (F := Ideal) .f32 (IntOp.remsi .host (IntOp.muli (BitVec.ofNat 32 a) (BitVec.ofNat 32 b)) (BitVec.ofNat 32 N))
      * Ideal.ofBits .f32 w * (Ideal.ofBits .f32 1090519040#32 * Ideal.atan 1)) = ((cs N (a * b) : ℝ) : EReal) := by
  rw [← cos_angle N _ hN0, turn', hw, ← rem_word .host a b N hab hN0 hN]
  rfl

/-- A sine of the tables. -/
theorem sin_entry (N : ℕ) (w : BitVec 32) (hw : Ideal.ofBits .f32 w = ((1 / (N : ℝ) : ℝ) : EReal)) (a b : ℕ) (hab : a * b < 2 ^ 31) (hN0 : 0 < N) (hN : N < 2 ^ 31) :
    Ideal.sin (FloatOps.sitofp (F := Ideal) .f32 (IntOp.remsi .host (IntOp.muli (BitVec.ofNat 32 a) (BitVec.ofNat 32 b)) (BitVec.ofNat 32 N))
      * Ideal.ofBits .f32 w * (Ideal.ofBits .f32 1090519040#32 * Ideal.atan 1)) = ((sn N (a * b) : ℝ) : EReal) := by
  rw [← sin_angle N _ hN0, turn', hw, ← rem_word .host a b N hab hN0 hN]
  rfl

/-- The words of 1/64, 1/128 and 1/8192. -/
theorem w64 : Ideal.ofBits .f32 1015021568#32 = ((1 / ((64 : ℕ) : ℝ) : ℝ) : EReal) := by rw [bits_inv64]; norm_num
theorem w128 : Ideal.ofBits .f32 1006632960#32 = ((1 / ((128 : ℕ) : ℝ) : ℝ) : EReal) := by rw [bits_inv128]; norm_num
theorem w8192 : Ideal.ofBits .f32 956301312#32 = ((1 / ((8192 : ℕ) : ℝ) : ℝ) : EReal) := by rw [bits_inv8192]; norm_num

/-- Products of two numbers below 256 are small. -/
theorem small (a b : ℕ) (ha : a < 256) (hb : b < 256) : a * b < 2 ^ 31 := by nlinarith

variable (m : (ℓ : Loc nD τ sig) → Buf (Elt Ideal) ℓ) (c : Dev nD)

/-- The first table: cosines over minus sines, of 64. -/
theorem first_table (a : Fin 128) (b : Fin 64) : (V m c main_v53 : FVec Ideal S128x64 .f32) (ix2 a b)
    = ((if a.val < 64 then cs 64 (a.val * b.val) else -sn 64 ((a.val - 64) * b.val) : ℝ) : EReal) := by
  simp only [V, V0, hostOps0, hostOps0_1, hostOps0_2, hostOps0_3, hostOps0_4, hostOps0_5, hostOps0_6, List.flatten_cons, List.flatten_nil, List.cons_append, List.nil_append]
  entry_read
  pointwise
  split
  · exact cos_entry 64 _ w64 _ _ (small _ _ (by omega) (by omega)) (by norm_num) (by norm_num)
  · rw [EReal.coe_neg, ← sin_entry 64 _ w64 _ _ (small _ _ (by omega) (by omega)) (by norm_num) (by norm_num)]

/-- The cosines of the twist. -/
theorem twist_cos (a : Fin 64) (b : Fin 128) : (V m c main_v29 : FVec Ideal S64x128 .f32) (ix2 a b) = ((cs 8192 (a.val * b.val) : ℝ) : EReal) := by
  simp only [V, V0, hostOps0, hostOps0_1, hostOps0_2, hostOps0_3, hostOps0_4, hostOps0_5, hostOps0_6, List.flatten_cons, List.flatten_nil, List.cons_append, List.nil_append]
  entry_read
  pointwise
  exact cos_entry 8192 _ w8192 _ _ (small _ _ (by omega) (by omega)) (by norm_num) (by norm_num)

/-- Minus the sines of the twist. -/
theorem twist_sin (a : Fin 64) (b : Fin 128) : (V m c main_v31 : FVec Ideal S64x128 .f32) (ix2 a b) = ((-sn 8192 (a.val * b.val) : ℝ) : EReal) := by
  simp only [V, V0, hostOps0, hostOps0_1, hostOps0_2, hostOps0_3, hostOps0_4, hostOps0_5, hostOps0_6, List.flatten_cons, List.flatten_nil, List.cons_append, List.nil_append]
  entry_read
  pointwise
  rw [EReal.coe_neg, ← sin_entry 8192 _ w8192 _ _ (small _ _ (by omega) (by omega)) (by norm_num) (by norm_num)]

/-- The cosines of the twist back. -/
theorem back_cos (a : Fin 64) (b : Fin 128) : (V m c main_v32 : FVec Ideal S64x128 .f32) (ix2 a b) = ((cs 8192 (a.val * b.val) : ℝ) : EReal) := by
  simp only [V, V0, hostOps0, hostOps0_1, hostOps0_2, hostOps0_3, hostOps0_4, hostOps0_5, hostOps0_6, List.flatten_cons, List.flatten_nil, List.cons_append, List.nil_append]
  entry_read
  pointwise
  exact cos_entry 8192 _ w8192 _ _ (small _ _ (by omega) (by omega)) (by norm_num) (by norm_num)

/-- The sines of the twist back. -/
theorem back_sin (a : Fin 64) (b : Fin 128) : (V m c main_v33 : FVec Ideal S64x128 .f32) (ix2 a b) = ((sn 8192 (a.val * b.val) : ℝ) : EReal) := by
  simp only [V, V0, hostOps0, hostOps0_1, hostOps0_2, hostOps0_3, hostOps0_4, hostOps0_5, hostOps0_6, List.flatten_cons, List.flatten_nil, List.cons_append, List.nil_append]
  entry_read
  pointwise
  exact sin_entry 8192 _ w8192 _ _ (small _ _ (by omega) (by omega)) (by norm_num) (by norm_num)

/-- The last table: cosines beside minus sines, of 64. -/
theorem last_table (a : Fin 64) (b : Fin 128) : (V m c main_v61 : FVec Ideal S64x128 .f32) (ix2 a b)
    = ((if b.val < 64 then cs 64 (a.val * b.val) else -sn 64 (a.val * (b.val - 64)) : ℝ) : EReal) := by
  simp only [V, V0, hostOps0, hostOps0_1, hostOps0_2, hostOps0_3, hostOps0_4, hostOps0_5, hostOps0_6, List.flatten_cons, List.flatten_nil, List.cons_append, List.nil_append]
  entry_read
  pointwise
  split
  · exact cos_entry 64 _ w64 _ _ (small _ _ (by omega) (by omega)) (by norm_num) (by norm_num)
  · rw [EReal.coe_neg, ← sin_entry 64 _ w64 _ _ (small _ _ (by omega) (by omega)) (by norm_num) (by norm_num)]

/-- The second table, 256 by 256: multiplication by the cosines and minus sines of 128, of real and imaginary parts. -/
theorem second_table (a b : Fin 256) : (V m c main_v55 : FVec Ideal S256x256 .f32) (ix2 a b)
    = ((if a.val < 128 then (if b.val < 128 then cs 128 (a.val * b.val) else -sn 128 (a.val * (b.val - 128)))
        else (if b.val < 128 then sn 128 ((a.val - 128) * b.val) else cs 128 ((a.val - 128) * (b.val - 128))) : ℝ) : EReal) := by
  simp only [V, V0, hostOps0, hostOps0_1, hostOps0_2, hostOps0_3, hostOps0_4, hostOps0_5, hostOps0_6, List.flatten_cons, List.flatten_nil, List.cons_append, List.nil_append]
  entry_read
  simp -implicitDefEqProofs only [StableHlo.TRef.toBuf, StableHlo.TRef.ofBuf, cast_cast, cast_eq]
  pointwise
  have e := fun (p q : ℕ) (hp : p < 256) (hq : q < 256) => cos_entry 128 _ w128 p q (small p q hp hq) (by norm_num) (by norm_num)
  have e' := fun (p q : ℕ) (hp : p < 256) (hq : q < 256) => sin_entry 128 _ w128 p q (small p q hp hq) (by norm_num) (by norm_num)
  by_cases ha : a.val < 128 <;> by_cases hb : b.val < 128
  · simp only [ha, hb, dif_pos, if_pos]
    exact e _ _ (by omega) (by omega)
  · simp only [ha, hb, dif_pos, if_pos, dif_neg, if_neg, not_false_eq_true]
    rw [e' _ _ (by omega) (by omega)]
    first | rfl | exact (EReal.coe_neg _).symm
  · simp only [ha, hb, dif_pos, if_pos, dif_neg, if_neg, not_false_eq_true]
    rw [e' _ _ (by omega) (by omega)]
    first | exact (EReal.coe_neg _).symm | rw [← EReal.coe_neg, ← EReal.coe_neg, neg_neg]
  · simp only [ha, hb, dif_neg, if_neg, not_false_eq_true]
    exact e _ _ (by omega) (by omega)

/-- The table of the inverse, 256 by 256. -/
theorem third_table (a b : Fin 256) : (V m c main_v57 : FVec Ideal S256x256 .f32) (ix2 a b)
    = ((if a.val < 128 then (if b.val < 128 then cs 128 (a.val * b.val) else sn 128 (a.val * (b.val - 128)))
        else (if b.val < 128 then -sn 128 ((a.val - 128) * b.val) else cs 128 ((a.val - 128) * (b.val - 128))) : ℝ) : EReal) := by
  simp only [V, V0, hostOps0, hostOps0_1, hostOps0_2, hostOps0_3, hostOps0_4, hostOps0_5, hostOps0_6, List.flatten_cons, List.flatten_nil, List.cons_append, List.nil_append]
  entry_read
  simp -implicitDefEqProofs only [StableHlo.TRef.toBuf, StableHlo.TRef.ofBuf, cast_cast, cast_eq]
  pointwise
  have e := fun (p q : ℕ) (hp : p < 256) (hq : q < 256) => cos_entry 128 _ w128 p q (small p q hp hq) (by norm_num) (by norm_num)
  have e' := fun (p q : ℕ) (hp : p < 256) (hq : q < 256) => sin_entry 128 _ w128 p q (small p q hp hq) (by norm_num) (by norm_num)
  by_cases ha : a.val < 128 <;> by_cases hb : b.val < 128
  · simp only [ha, hb, dif_pos, if_pos]
    exact e _ _ (by omega) (by omega)
  · simp only [ha, hb, dif_pos, if_pos, dif_neg, if_neg, not_false_eq_true]
    exact e' _ _ (by omega) (by omega)
  · simp only [ha, hb, dif_pos, if_pos, dif_neg, if_neg, not_false_eq_true]
    rw [e' _ _ (by omega) (by omega)]
    first | exact (EReal.coe_neg _).symm | rw [← EReal.coe_neg, ← EReal.coe_neg, neg_neg]
  · simp only [ha, hb, dif_neg, if_neg, not_false_eq_true]
    exact e _ _ (by omega) (by omega)

/-- The signal as the launch is handed it: row, residue of the time, channel, quotient of the time. -/
theorem signal (b : Fin 32) (i f : Fin 64) (j : Fin 128) : (V m c main_v63 : FVec Ideal S32x64x64x128 .f32) (ix4 b i f j)
    = (m ((c.tc : Thread nD τ).loc main_arg0) : FVec Ideal S32x8192x64 .f32) (ix3 b ⟨i.val * 128 + j.val, by omega⟩ f) := by
  simp only [V, V0, hostOps0, hostOps0_1, hostOps0_2, hostOps0_3, hostOps0_4, hostOps0_5, hostOps0_6, List.flatten_cons, List.flatten_nil, List.cons_append, List.nil_append]
  entry_read
  pointwise

end Cert.Tables

end
-- ==== Proof.Reference.lean ====
/- The reference's two results as named steps, and each step's values over the real numbers: the cosine and sine tables,
   the transform of the signal, the strengths of its bins, the eight strongest and the two inverse transforms. -/
module

public import proofs.«01_k».proof.Proof.Fourier
public import proofs.«01_k».proof.Proof.Ranking
public import proofs.«01_k».proof.Proof.Gen.ReferenceIdeal.Run
public import Idealize.ShloMosaic.Lib.Pipeline.ValueKit
public import Idealize.ShloMosaic.Lib.Routing.OpsPair
public import Idealize.ShloMosaic.Lib.Routing.OpsSet

@[expose] public section

set_option maxRecDepth 16384

noncomputable section

namespace Cert.Reference

open Idealize.ShloMosaic Idealize.SL.Sem Idealize.ShloMosaic.ValueIdx
open Cert.ReferenceIdeal Cert.ReferenceIdeal.Gen

/-- The angles: the remainder of `t·k` by 8192, over 8192, times a full turn. -/
def theta : FVec Ideal S8192x4097 .f32 :=
  mulf (mulf (sitofp .f32 (Host.remsi (muli (iotaInDim S8192x4097 32 0) (iotaInDim S8192x4097 32 1)) (broadcastInDim S8192x4097 ![] bcast_S_S8192x4097 (constantI S_ 32 8192#32)))) (broadcastInDim S8192x4097 ![] bcast_S_S8192x4097 (constant S_ .f32 0x39000000#32))) (broadcastInDim S8192x4097 ![] bcast_S_S8192x4097 (mulf (constant S_ .f32 0x41000000#32) (Host.atan (constant S_ .f32 0x3F800000#32))))

/-- The real part of the transform of every row. -/
def re (x : FVec Ideal S32x8192x64 .f32) : FVec Ideal S32x64x4097 .f32 :=
  Host.dotGeneral dot_S32x8192x64_S8192x4097_S32x64x4097_1_0_02_1_n_n (some .fp32) x (Host.cos theta)

/-- The imaginary part. -/
def im (x : FVec Ideal S32x8192x64 .f32) : FVec Ideal S32x64x4097 .f32 :=
  Host.negf (Host.dotGeneral dot_S32x8192x64_S8192x4097_S32x64x4097_1_0_02_1_n_n (some .fp32) x (Host.sin theta))

/-- The strengths of the bins. -/
def mag (x : FVec Ideal S32x8192x64 .f32) : FVec Ideal S32x64x4097 .f32 :=
  Host.sqrt (addf (mulf (re x) (re x)) (mulf (im x) (im x)))

/-- The numbers of the eight strongest bins. -/
def top (x : FVec Ideal S32x8192x64 .f32) : IVec S32x64x8 32 :=
  (Host.topK S32x64x8 2 (FloatOps.cmpfTotal .gt) (mag x) sliceFits_S32x64x4097_S32x64x8).2

/-- The places to mark: row, channel and bin of each of the eight. -/
def places (x : FVec Ideal S32x8192x64 .f32) : IVec S32x64x8x3 32 :=
  concatenate S32x64x8x3 3 [⟨S32x64x8x1, (broadcastInDim S32x64x8x1 ![0, 1, 2] bcast_S32x64x8_S32x64x8x1_0_1_2 (broadcastInDim S32x64x8 ![0, 1, 2] bcast_S32x1x1_S32x64x8_0_1_2 (select (cmpi .slt (broadcastInDim S32x1x1 ![0] bcast_S32_S32x1x1_0 (iotaInDim S32 32 0)) (broadcastInDim S32x1x1 ![] bcast_S_S32x1x1 (constantI S_ 32 0#32))) (addi (broadcastInDim S32x1x1 ![0] bcast_S32_S32x1x1_0 (iotaInDim S32 32 0)) (broadcastInDim S32x1x1 ![] bcast_S_S32x1x1 (constantI S_ 32 32#32))) (broadcastInDim S32x1x1 ![0] bcast_S32_S32x1x1_0 (iotaInDim S32 32 0)))))⟩,
    ⟨S32x64x8x1, (broadcastInDim S32x64x8x1 ![0, 1, 2] bcast_S32x64x8_S32x64x8x1_0_1_2 (broadcastInDim S32x64x8 ![0, 1, 2] bcast_S1x64x1_S32x64x8_0_1_2 (select (cmpi .slt (broadcastInDim S1x64x1 ![1] bcast_S64_S1x64x1_1 (iotaInDim S64 32 0)) (broadcastInDim S1x64x1 ![] bcast_S_S1x64x1 (constantI S_ 32 0#32))) (addi (broadcastInDim S1x64x1 ![1] bcast_S64_S1x64x1_1 (iotaInDim S64 32 0)) (broadcastInDim S1x64x1 ![] bcast_S_S1x64x1 (constantI S_ 32 64#32))) (broadcastInDim S1x64x1 ![1] bcast_S64_S1x64x1_1 (iotaInDim S64 32 0)))))⟩,
    ⟨S32x64x8x1, (broadcastInDim S32x64x8x1 ![0, 1, 2] bcast_S32x64x8_S32x64x8x1_0_1_2 (select (cmpi .slt (top x) (broadcastInDim S32x64x8 ![] bcast_S_S32x64x8 (constantI S_ 32 0#32))) (addi (top x) (broadcastInDim S32x64x8 ![] bcast_S_S32x64x8 (constantI S_ 32 4097#32))) (top x)))⟩] concatenates_S32x64x8x1_S32x64x8x1_S32x64x8x1_S32x64x8x3_d3

/-- The marks of the eight strongest bins. -/
def mask (x : FVec Ideal S32x8192x64 .f32) : IVec S32x64x4097 1 :=
  Host.scatter scatter_S32x64x4097_S32x64x8x3_S32x64x8_n_012_012_3 (fun _ b => b) (broadcastInDim S32x64x4097 ![] bcast_S_S32x64x4097 (constantI S_ 1 0#1)) (places x) (broadcastInDim S32x64x8 ![] bcast_S_S32x64x8 (constantI S_ 1 1#1))

/-- The transform with every unmarked bin set to zero. -/
def keep (x : FVec Ideal S32x8192x64 .f32) (y : FVec Ideal S32x64x4097 .f32) : FVec Ideal S32x64x4097 .f32 :=
  select (mask x) y (broadcastInDim S32x64x4097 ![] bcast_S_S32x64x4097 (id (constant S_ .f32 0x00000000#32)))

/-- The weights of the bins in the inverse transform. -/
def weight : FVec Ideal S32x64x4097 .f32 :=
  broadcastInDim S32x64x4097 ![0, 1, 2] bcast_S1x1x4097_S32x64x4097_0_1_2 (broadcastInDim S1x1x4097 ![2] bcast_S4097_S1x1x4097_2 (id (mulf (select (ori (cmpi .eq (iotaInDim S4097 32 0) (broadcastInDim S4097 ![] bcast_S_S4097 (constantI S_ 32 0#32))) (cmpi .eq (iotaInDim S4097 32 0) (broadcastInDim S4097 ![] bcast_S_S4097 (constantI S_ 32 4096#32)))) (broadcastInDim S4097 ![] bcast_S_S4097 (constant S_ .f32 0x3F800000#32)) (broadcastInDim S4097 ![] bcast_S_S4097 (constant S_ .f32 0x40000000#32))) (broadcastInDim S4097 ![] bcast_S_S4097 (constant S_ .f32 0x39000000#32)))))

/-- The inverse transform of the bins `yr + i·yi`. -/
def inverse (yr yi : FVec Ideal S32x64x4097 .f32) : FVec Ideal S32x8192x64 .f32 :=
  subf
    (transpose S32x8192x64 [1, 0, 2] (Host.dotGeneral dot_S8192x4097_S32x64x4097_S8192x32x64_1_2_0_01_n_n (some .fp32) (Host.cos theta) (mulf yr weight)) transposes_S8192x32x64_S32x8192x64_1_0_2)
    (transpose S32x8192x64 [1, 0, 2] (Host.dotGeneral dot_S8192x4097_S32x64x4097_S8192x32x64_1_2_0_01_n_n (some .fp32) (Host.sin theta) (mulf yi weight)) transposes_S8192x32x64_S32x8192x64_1_0_2)

/-- The seasonal part: the inverse transform of the eight strongest bins. -/
def seasonal (x : FVec Ideal S32x8192x64 .f32) : FVec Ideal S32x8192x64 .f32 :=
  inverse (keep x (re x)) (keep x (im x))

/-- The main part: the inverse transform of the other bins. -/
def main (x : FVec Ideal S32x8192x64 .f32) : FVec Ideal S32x8192x64 .f32 :=
  inverse (subf (re x) (keep x (re x))) (subf (im x) (keep x (im x)))

/-- The reference's second result is the seasonal part. -/
theorem out1_eq (m : (ℓ : Loc nD τ sig) → Buf (Elt Ideal) ℓ) (c : Dev nD) :
    Value.res_out1 m c = seasonal (m ((c.tc : Thread nD τ).loc main_arg0)) := rfl

/-- The reference's first result is the main part. -/
theorem out0_eq (m : (ℓ : Loc nD τ sig) → Buf (Elt Ideal) ℓ) (c : Dev nD) :
    Value.res_out0 m c = main (m ((c.tc : Thread nD τ).loc main_arg0)) := rfl

end Cert.Reference

end
-- ==== Proof.RefValue.lean ====
/- The reference's steps over the real numbers: where the signal's elements are real, each step holds the real value that
   the plain transform has there. -/
module

public import proofs.«01_k».proof.Proof.Reference
public import proofs.«01_k».proof.Proof.Lift
public import proofs.«01_k».proof.Proof.Spec

@[expose] public section

set_option maxRecDepth 16384

noncomputable section

namespace Cert.Reference

open Idealize.ShloMosaic Idealize.SL.Sem
open Cert.ReferenceIdeal Cert.ReferenceIdeal.Gen
open Cert.Lift

/-- The cosine table holds the cosines of `t·k / 8192`. -/
theorem cos_at (t : Fin 8192) (k : Fin 4097) : Ideal.cos (theta (ix2 t k)) = ((Fourier.cs 8192 (t.val * k.val) : ℝ) : EReal) := by
  have h := rem_word .host t.val k.val 8192 (by have := t.isLt; have := k.isLt; nlinarith) (by norm_num) (by norm_num)
  rw [← cos_angle 8192 _ (by norm_num)]
  refine congrArg Ideal.cos ?_
  have e : theta (ix2 t k) = (((IntOp.remsi .host (IntOp.muli (BitVec.ofNat 32 t.val) (BitVec.ofNat 32 k.val)) (BitVec.ofNat 32 8192)).toInt : ℝ) : EReal)
      * Ideal.ofBits .f32 0x39000000#32 * (Ideal.ofBits .f32 0x41000000#32 * Ideal.atan (Ideal.ofBits .f32 0x3F800000#32)) := rfl
  rw [e, h, bits_inv8192, turn]
  norm_num

/-- The sine table holds the sines of `t·k / 8192`. -/
theorem sin_at (t : Fin 8192) (k : Fin 4097) : Ideal.sin (theta (ix2 t k)) = ((Fourier.sn 8192 (t.val * k.val) : ℝ) : EReal) := by
  have h := rem_word .host t.val k.val 8192 (by have := t.isLt; have := k.isLt; nlinarith) (by norm_num) (by norm_num)
  rw [← sin_angle 8192 _ (by norm_num)]
  refine congrArg Ideal.sin ?_
  have e : theta (ix2 t k) = (((IntOp.remsi .host (IntOp.muli (BitVec.ofNat 32 t.val) (BitVec.ofNat 32 k.val)) (BitVec.ofNat 32 8192)).toInt : ℝ) : EReal)
      * Ideal.ofBits .f32 0x39000000#32 * (Ideal.ofBits .f32 0x41000000#32 * Ideal.atan (Ideal.ofBits .f32 0x3F800000#32)) := rfl
  rw [e, h, bits_inv8192, turn]
  norm_num

variable (x : FVec Ideal S32x8192x64 .f32) (X : Fin 32 → Fin 64 → ℕ → ℝ)
  (hx : ∀ (b : Fin 32) (t : Fin 8192) (f : Fin 64), x (ix3 b t f) = ((X b f t.val : ℝ) : EReal))

include hx

/-- The real parts. -/
theorem re_at (b : Fin 32) (f : Fin 64) (k : Fin 4097) : re x (ix3 b f k) = ((Fourier.re (X b f) k.val : ℝ) : EReal) := by
  pointwise [re]
  simp only [hx, cos_at, ← EReal.coe_mul, coe_sum]
  rfl

/-- The imaginary parts. -/
theorem im_at (b : Fin 32) (f : Fin 64) (k : Fin 4097) : im x (ix3 b f k) = ((Fourier.im (X b f) k.val : ℝ) : EReal) := by
  pointwise [im]
  simp only [hx, sin_at, ← EReal.coe_mul, coe_sum, ← EReal.coe_neg]
  rfl

/-- The strengths. -/
theorem mag_at (b : Fin 32) (f : Fin 64) (k : Fin 4097) : mag x (ix3 b f k) = ((Spec.strength (X b f) k.val : ℝ) : EReal) := by
  pointwise [mag]
  rw [re_at x X hx, im_at x X hx, ← EReal.coe_mul, ← EReal.coe_mul, ← EReal.coe_add, Ideal.sqrt_coe,
    if_neg (not_lt.2 (add_nonneg (mul_self_nonneg _) (mul_self_nonneg _)))]
  rfl

omit hx in
/-- The positions of the eight strongest are the first eight of the stable sort by strength. -/
theorem top_at (b : Fin 32) (f : Fin 64) (i : Fin 8) :
    top x (ix3 b f i) = BitVec.ofNat 32 (sortedFrom (fun k k' : Fin 4097 => Ideal.cmp .ogt (mag x (ix3 b f k)) (mag x (ix3 b f k')) == 1#1)
      (⟨i.val, by omega⟩ : Fin 4097)).val := by
  have e : ∀ (j : Fin 4097) (k : Fin 4097), (ix3 b f j : S32x64x4097.Idx).along 2 k = ix3 b f k := by
    intro j k
    funext a
    fin_cases a <;> rfl
  unfold top Host.topK Host.sort2
  pointwise
  simp only [e]
  rfl

/-- Position `i < 8` of the sort holds bin `k` for some `i` exactly when `k` is one of the eight strongest. -/
theorem top_iff (b : Fin 32) (f : Fin 64) (k : Fin 4097) :
    (∃ i : Fin 8, top x (ix3 b f i) = BitVec.ofNat 32 k.val) ↔ Spec.strong (X b f) k.val := by
  unfold Spec.strong
  rw [← Ranking.sorted_iff (Spec.strength (X b f))
    (fun k k' : Fin 4097 => Ideal.cmp .ogt (mag x (ix3 b f k)) (mag x (ix3 b f k')) == 1#1) (fun a c => by
      rw [mag_at x X hx, mag_at x X hx]
      by_cases h : Spec.strength (X b f) c.val < Spec.strength (X b f) a.val <;>
        simp [Ideal.cmp, EReal.coe_lt_coe_iff, h])]
  simp only [top_at]
  constructor
  · rintro ⟨i, hi⟩
    refine ⟨⟨i.val, by omega⟩, i.isLt, Fin.ext ?_⟩
    have := congrArg BitVec.toNat hi
    rw [BitVec.toNat_ofNat, BitVec.toNat_ofNat, Nat.mod_eq_of_lt (by omega), Nat.mod_eq_of_lt (by omega)] at this
    exact this
  · rintro ⟨i, hi, rfl⟩
    exact ⟨⟨i.val, hi⟩, rfl⟩

end Cert.Reference

end
-- ==== Proof.Mask.lean ====
/- The reference's marks: bin `k` of a channel is marked exactly when it is one of the eight strongest. -/
module

public import proofs.«01_k».proof.Proof.RefValue

@[expose] public section

set_option maxRecDepth 16384

noncomputable section

namespace Cert.Reference

open Idealize.ShloMosaic Idealize.SL.Sem
open Cert.ReferenceIdeal Cert.ReferenceIdeal.Gen
open Cert.Lift

/-- The mark of row `b`, channel `f`, place `i` starts at the three words held there. -/
theorem start_at (idx : IVec S32x64x8x3 32) (b : Fin 32) (f : Fin 64) (i : Fin 8) (a : Fin 3) :
    scatter_S32x64x4097_S32x64x8x3_S32x64x8_n_012_012_3.start (ix3 b f i) idx a = (idx (ix4 b f i a)).toInt := by
  have h : ∀ a : Fin 3, a ∈ scatter_S32x64x4097_S32x64x8x3_S32x64x8_n_012_012_3.scatterDimsToOperandDims := by decide
  unfold ScatterDims.start
  rw [dif_pos (h a)]
  refine congrArg (fun z => (idx z).toInt) ?_
  funext q
  fin_cases a <;> fin_cases q <;> rfl

/-- A mark is one element wide. -/
theorem window_at (k : S32x64x8.Idx) (a : Fin 3) : scatter_S32x64x4097_S32x64x8x3_S32x64x8_n_012_012_3.window k a = 0 := by
  have h : ∀ a : Fin 3, a ∉ S32x64x4097.kept scatter_S32x64x4097_S32x64x8x3_S32x64x8_n_012_012_3.insertedWindowDims := by decide
  unfold ScatterDims.window
  rw [dif_neg (h a)]

/-- The mark of `(b, f, i)` lands on the element whose coordinates are the three words held there. -/
theorem lands_at (idx : IVec S32x64x8x3 32) (b : Fin 32) (f : Fin 64) (i : Fin 8) (b' : Fin 32) (f' : Fin 64) (k : Fin 4097) :
    scatter_S32x64x4097_S32x64x8x3_S32x64x8_n_012_012_3.resultIdx? (ix3 b f i) idx = some (ix3 b' f' k) ↔
      (idx (ix4 b f i 0)).toInt = b'.val ∧ (idx (ix4 b f i 1)).toInt = f'.val ∧ (idx (ix4 b f i 2)).toInt = k.val := by
  rw [Routing.resultIdx?_eq_some]
  constructor
  · intro h
    refine ⟨?_, ?_, ?_⟩
    · have := h 0
      rw [start_at idx b f i 0, window_at] at this
      simpa using this
    · have := h 1
      rw [start_at idx b f i 1, window_at] at this
      simpa using this
    · have := h 2
      rw [start_at idx b f i 2, window_at] at this
      simpa using this
  · rintro ⟨h0, h1, h2⟩ a
    rw [start_at idx b f i a, window_at]
    fin_cases a
    · simpa using h0
    · simpa using h1
    · simpa using h2

variable (x : FVec Ideal S32x8192x64 .f32)

/-- The first word of a place is its row. -/
theorem place0 (b : Fin 32) (f : Fin 64) (i : Fin 8) : places x (ix4 b f i 0) = BitVec.ofNat 32 b.val := by
  have e : places x (ix4 b f i 0) = Scalar.select (IntOp.cmpi .slt (BitVec.ofNat 32 b.val) 0#32) (IntOp.addi (BitVec.ofNat 32 b.val) 32#32) (BitVec.ofNat 32 b.val) := rfl
  rw [e, Routing.wrap_of_lt]
  rw [BitVec.toNat_ofNat, Nat.mod_eq_of_lt (by omega)]
  omega

/-- The second word of a place is its channel. -/
theorem place1 (b : Fin 32) (f : Fin 64) (i : Fin 8) : places x (ix4 b f i 1) = BitVec.ofNat 32 f.val := by
  have e : places x (ix4 b f i 1) = Scalar.select (IntOp.cmpi .slt (BitVec.ofNat 32 f.val) 0#32) (IntOp.addi (BitVec.ofNat 32 f.val) 64#32) (BitVec.ofNat 32 f.val) := rfl
  rw [e, Routing.wrap_of_lt]
  rw [BitVec.toNat_ofNat, Nat.mod_eq_of_lt (by omega)]
  omega

/-- The third word of a place is the number of its bin. -/
theorem place2 (b : Fin 32) (f : Fin 64) (i : Fin 8) : places x (ix4 b f i 2) = top x (ix3 b f i) := by
  have e : places x (ix4 b f i 2) = Scalar.select (IntOp.cmpi .slt (top x (ix3 b f i)) 0#32) (IntOp.addi (top x (ix3 b f i)) 4097#32) (top x (ix3 b f i)) := by
    unfold places
    generalize top x = w
    pointwise
  rw [e, top_at, Routing.wrap_of_lt]
  rw [BitVec.toNat_ofNat, Nat.mod_eq_of_lt (by omega)]
  omega

variable (X : Fin 32 → Fin 64 → ℕ → ℝ) (hx : ∀ (b : Fin 32) (t : Fin 8192) (f : Fin 64), x (ix3 b t f) = ((X b f t.val : ℝ) : EReal))

include hx

open scoped Classical in
/-- Bin `k` is marked when it is one of the eight strongest, and only then. -/
theorem mask_at (b : Fin 32) (f : Fin 64) (k : Fin 4097) : mask x (ix3 b f k) = if Spec.strong (X b f) k.val then 1#1 else 0#1 := by
  have small : ∀ n : ℕ, n < 2 ^ 31 → (BitVec.ofNat 32 n).toInt = n := fun n hn => by
    rw [BitVec.toInt_eq_toNat_of_lt (by rw [BitVec.toNat_ofNat]; omega), BitVec.toNat_ofNat]; omega
  have lands : ∀ (b' : Fin 32) (f' : Fin 64) (i : Fin 8),
      scatter_S32x64x4097_S32x64x8x3_S32x64x8_n_012_012_3.resultIdx? (ix3 b' f' i) (places x) = some (ix3 b f k) ↔
        b' = b ∧ f' = f ∧ top x (ix3 b' f' i) = BitVec.ofNat 32 k.val := by
    intro b' f' i
    rw [lands_at, place0, place1, place2, top_at, small _ (by omega), small _ (by omega), small _ (by omega)]
    constructor
    · rintro ⟨h0, h1, h2⟩
      exact ⟨Fin.ext (by omega), Fin.ext (by omega), congrArg (BitVec.ofNat 32) (by omega)⟩
    · rintro ⟨h0, h1, h2⟩
      refine ⟨by rw [h0], by rw [h1], ?_⟩
      have := congrArg BitVec.toNat h2
      rw [BitVec.toNat_ofNat, BitVec.toNat_ofNat, Nat.mod_eq_of_lt (by omega), Nat.mod_eq_of_lt (by omega)] at this
      exact_mod_cast this
  have split3 : ∀ j : S32x64x8.Idx, ∃ (b' : Fin 32) (f' : Fin 64) (i : Fin 8), j = ix3 b' f' i := fun j =>
    ⟨j 0, j 1, j 2, by funext a; fin_cases a <;> rfl⟩
  unfold mask
  split
  · next h =>
    obtain ⟨i, hi⟩ := (top_iff x X hx b f k).2 h
    exact Routing.scatter_set_hit _ _ _ _ _ 1#1 (fun _ _ => rfl) (ix3 b f i) ((lands b f i).2 ⟨rfl, rfl, hi⟩)
  · next h =>
    rw [Routing.scatter_set_miss _ _ _ _ _ fun j hj => ?_]
    · rfl
    · obtain ⟨b', f', i, rfl⟩ := split3 j
      obtain ⟨rfl, rfl, hi⟩ := (lands b' f' i).1 hj
      exact h ((top_iff x X hx b' f' k).1 ⟨i, hi⟩)

open scoped Classical in
/-- A transform kept where it is marked. -/
theorem keep_at (y : FVec Ideal S32x64x4097 .f32) (Y : ℝ) (b : Fin 32) (f : Fin 64) (k : Fin 4097) (hy : y (ix3 b f k) = (Y : EReal)) :
    keep x y (ix3 b f k) = ((Spec.kept (X b f) k.val Y : ℝ) : EReal) := by
  have e : keep x y (ix3 b f k) = Scalar.select (mask x (ix3 b f k)) (y (ix3 b f k)) (Ideal.ofBits .f32 0#32) := rfl
  rw [e, mask_at x X hx, hy, bits_0]
  unfold Spec.kept
  by_cases h : Spec.strong (X b f) k.val <;> simp [h, Scalar.select]

omit hx in
/-- The weights: once for the first and the middle bin, twice for every other, over 8192. -/
theorem weight_at (b : Fin 32) (f : Fin 64) (k : Fin 4097) : weight (ix3 b f k) = ((Fourier.copies k.val * (1 / 8192) : ℝ) : EReal) := by
  have e : weight (ix3 b f k) = Scalar.select (IntOp.ori (IntOp.cmpi .eq (BitVec.ofNat 32 k.val) 0#32) (IntOp.cmpi .eq (BitVec.ofNat 32 k.val) 4096#32))
      (Ideal.ofBits .f32 0x3F800000#32) (Ideal.ofBits .f32 0x40000000#32) * Ideal.ofBits .f32 0x39000000#32 := rfl
  have w : ∀ n : ℕ, n < 4097 → ((BitVec.ofNat 32 k.val = BitVec.ofNat 32 n) ↔ k.val = n) := fun n hn => by
    constructor
    · intro h
      have := congrArg BitVec.toNat h
      rw [BitVec.toNat_ofNat, BitVec.toNat_ofNat] at this
      omega
    · exact congrArg _
  have c : Scalar.select (IntOp.ori (IntOp.cmpi .eq (BitVec.ofNat 32 k.val) 0#32) (IntOp.cmpi .eq (BitVec.ofNat 32 k.val) 4096#32))
      (((1:ℝ):EReal)) (((2:ℝ):EReal)) = ((Fourier.copies k.val : ℝ) : EReal) := by
    unfold Fourier.copies
    by_cases h0 : k.val = 0
    · rw [h0]
      rfl
    · by_cases h1 : k.val = 4096
      · rw [h1]
        rfl
      · have a0 : (BitVec.ofNat 32 k.val == 0#32) = false := by simpa using fun h => h0 ((w 0 (by omega)).1 h)
        have a1 : (BitVec.ofNat 32 k.val == 4096#32) = false := by simpa using fun h => h1 ((w 4096 (by omega)).1 h)
        simp only [IntOp.cmpi, a0, a1, h0, h1]
        simp [Scalar.select, IntOp.ori]
  rw [e, bits_1, bits_2, c, bits_inv8192, ← EReal.coe_mul]

omit hx in
/-- The inverse transform of real bins at time `s`. -/
theorem inverse_at (yr yi : FVec Ideal S32x64x4097 .f32) (Yr Yi : Fin 32 → Fin 64 → ℕ → ℝ) (b : Fin 32) (s : Fin 8192) (f : Fin 64)
    (hr : ∀ k : Fin 4097, yr (ix3 b f k) = ((Yr b f k.val : ℝ) : EReal)) (hi : ∀ k : Fin 4097, yi (ix3 b f k) = ((Yi b f k.val : ℝ) : EReal)) :
    inverse yr yi (ix3 b s f) = ((∑ k : Fin 4097, Fourier.copies k.val * (Yr b f k.val * Fourier.cs 8192 (s.val * k.val)
      - Yi b f k.val * Fourier.sn 8192 (s.val * k.val)) * (1 / 8192) : ℝ) : EReal) := by
  pointwise [inverse]
  simp only [hr, hi, cos_at, sin_at, weight_at, ← EReal.coe_mul, coe_sum, ← EReal.coe_sub]
  refine congrArg _ ?_
  rw [← Finset.sum_sub_distrib]
  refine Finset.sum_congr rfl fun k _ => ?_
  ring

/-- The seasonal part. -/
theorem seasonal_at (b : Fin 32) (s : Fin 8192) (f : Fin 64) :
    seasonal x (ix3 b s f) = ((Spec.season (X b f) s.val : ℝ) : EReal) := by
  unfold seasonal
  rw [inverse_at _ _ (fun b f k => Spec.kept (X b f) k (Fourier.re (X b f) k)) (fun b f k => Spec.kept (X b f) k (Fourier.im (X b f) k)) b s f
    (fun k => keep_at x X hx _ _ b f k (re_at x X hx b f k)) (fun k => keep_at x X hx _ _ b f k (im_at x X hx b f k))]
  refine congrArg _ (Finset.sum_congr rfl fun k _ => ?_)
  unfold Spec.kept Fourier.wave
  split <;> simp

/-- The main part: the signal less its seasonal part. -/
theorem main_at (b : Fin 32) (s : Fin 8192) (f : Fin 64) :
    main x (ix3 b s f) = ((X b f s.val - Spec.season (X b f) s.val : ℝ) : EReal) := by
  unfold main
  rw [inverse_at _ _ (fun b f k => Fourier.re (X b f) k - Spec.kept (X b f) k (Fourier.re (X b f) k))
    (fun b f k => Fourier.im (X b f) k - Spec.kept (X b f) k (Fourier.im (X b f) k)) b s f
    (fun k => by
      have e : subf (re x) (keep x (re x)) (ix3 b f k) = re x (ix3 b f k) - keep x (re x) (ix3 b f k) := rfl
      rw [e, keep_at x X hx _ _ b f k (re_at x X hx b f k), re_at x X hx, EReal.coe_sub])
    (fun k => by
      have e : subf (im x) (keep x (im x)) (ix3 b f k) = im x (ix3 b f k) - keep x (im x) (ix3 b f k) := rfl
      rw [e, keep_at x X hx _ _ b f k (im_at x X hx b f k), im_at x X hx, EReal.coe_sub])]
  refine congrArg _ ?_
  rw [← Spec.whole (X b f) s, Spec.season, ← Finset.sum_sub_distrib]
  refine Finset.sum_congr rfl fun k _ => ?_
  unfold Spec.kept Fourier.wave
  split <;> simp

end Cert.Reference

end
-- ==== Proof.Bridge.lean ====
/- From one row to the whole arrays: after the launch its two results are the reference's, for every signal of real
   numbers. -/
module

public import proofs.«01_k».proof.Proof.Row
public import proofs.«01_k».proof.Proof.Tables
public import proofs.«01_k».proof.Proof.Mask

@[expose] public section

set_option maxRecDepth 16384

noncomputable section

namespace Cert.Bridge

open Idealize.ShloMosaic Idealize.ShloMosaic.TcCoe Idealize.SL.Sem
open Idealize.ShloMosaic.Pipeline (Dat)
open Cert.KernelIdeal Cert.KernelIdeal.Gen
open Cert.Fourier

/-- Time `128·i + j` is one of the 8192. -/
theorem time_lt (i : Fin 64) (j : Fin 128) : 128 * i.val + j.val < 8192 := by omega

/-- A result in the layout of the launch: time `128·i + j` of channel `f` stands at `[b, i, f, j]`. -/
def spread (y : FVec Ideal S32x8192x64 .f32) : FVec Ideal S32x64x64x128 .f32 := fun p =>
  y (ix3 (p 0) ⟨128 * (p 1).val + (p 3).val, time_lt (p 1) (p 3)⟩ (p 2))

/-- The lines after the launch put the times in a row again. -/
theorem unspread (y : FVec Ideal S32x8192x64 .f32) :
    (shapeCast S32x8192x64 (transpose S32x64x128x64 [0, 1, 3, 2] (spread y) transposes_S32x64x64x128_S32x64x128x64_0_1_3_2)
      shapeCasts_S32x64x128x64_S32x8192x64 : FVec Ideal S32x8192x64 .f32) = y := by
  funext p
  obtain ⟨b, s, f, rfl⟩ : ∃ (b : Fin 32) (s : Fin 8192) (f : Fin 64), p = ix3 b s f := ⟨p 0, p 1, p 2, by funext a; fin_cases a <;> rfl⟩
  pointwise [spread]
  exact congrArg (fun t => y (ix3 b t f)) (Fin.ext (Nat.div_add_mod s.val 128))

variable (m : (ℓ : Loc nD τ sig) → Buf (Elt Ideal) ℓ) (c : Dev nD) (t : Fin cfg0.N)

/-- Point `t` works on row `t` of the signal and of the results; every table is one block. -/
theorem idx : ∀ t : Fin cfg0.N, win0_0.index t = ![t.val, 0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![t.val, 0, 0, 0] ∧ win0_10.index t = ![t.val, 0, 0, 0] ∧ t.val < 32 :=
  (by decide +kernel : ∀ t : Fin grid0.N, _)

/-- The signal of row `t`. -/
theorem block0 (i f : Fin 64) (j : Fin 128) : (iblk m c 0 t : FVec Ideal S1x64x64x128 .f32) (ix4 0 i f j)
    = (V m c main_v63 : FVec Ideal S32x64x64x128 .f32) (ix4 ⟨t.val, (idx t).2.2.2.2.2.2.2.2.2.2.2⟩ i f j) := by
  blk_ext [iblk, idx t]
/-- The first table. -/
theorem block1 (a : Fin 128) (b : Fin 64) : (iblk m c 1 t : FVec Ideal S128x64 .f32) (ix2 a b) = (V m c main_v53 : FVec Ideal S128x64 .f32) (ix2 a b) := by
  blk_ext [iblk, idx t]
/-- The twist's cosines. -/
theorem block2 (a : Fin 64) (b : Fin 128) : (iblk m c 2 t : FVec Ideal S64x128 .f32) (ix2 a b) = (V m c main_v29 : FVec Ideal S64x128 .f32) (ix2 a b) := by
  blk_ext [iblk, idx t]
/-- The twist's sines. -/
theorem block3 (a : Fin 64) (b : Fin 128) : (iblk m c 3 t : FVec Ideal S64x128 .f32) (ix2 a b) = (V m c main_v31 : FVec Ideal S64x128 .f32) (ix2 a b) := by
  blk_ext [iblk, idx t]
/-- The second table. -/
theorem block4 (a b : Fin 256) : (iblk m c 4 t : FVec Ideal S256x256 .f32) (ix2 a b) = (V m c main_v55 : FVec Ideal S256x256 .f32) (ix2 a b) := by
  blk_ext [iblk, idx t]
/-- The third table. -/
theorem block5 (a b : Fin 256) : (iblk m c 5 t : FVec Ideal S256x256 .f32) (ix2 a b) = (V m c main_v57 : FVec Ideal S256x256 .f32) (ix2 a b) := by
  blk_ext [iblk, idx t]
/-- The cosines of the twist back. -/
theorem block6 (a : Fin 64) (b : Fin 128) : (iblk m c 6 t : FVec Ideal S64x128 .f32) (ix2 a b) = (V m c main_v32 : FVec Ideal S64x128 .f32) (ix2 a b) := by
  blk_ext [iblk, idx t]
/-- The sines of the twist back. -/
theorem block7 (a : Fin 64) (b : Fin 128) : (iblk m c 7 t : FVec Ideal S64x128 .f32) (ix2 a b) = (V m c main_v33 : FVec Ideal S64x128 .f32) (ix2 a b) := by
  blk_ext [iblk, idx t]
/-- The last table. -/
theorem block8 (a : Fin 64) (b : Fin 128) : (iblk m c 8 t : FVec Ideal S64x128 .f32) (ix2 a b) = (V m c main_v61 : FVec Ideal S64x128 .f32) (ix2 a b) := by
  blk_ext [iblk, idx t]

variable (X : Fin 32 → Fin 64 → ℕ → ℝ)
  (hX : ∀ (b : Fin 32) (s : Fin 8192) (f : Fin 64), (m ((c.tc : Thread nD τ).loc main_arg0) : FVec Ideal S32x8192x64 .f32) (ix3 b s f) = ((X b f s.val : ℝ) : EReal))

include hX

/-- The signal of row `t` in real numbers. -/
theorem signal_at (b : Fin 32) (hb : b.val = t.val) (i f : Fin 64) (j : Fin 128) :
    (iblk m c 0 t : FVec Ideal S1x64x64x128 .f32) (ix4 0 i f j) = ((X b f (128 * i.val + j.val) : ℝ) : EReal) := by
  obtain rfl : b = ⟨t.val, (idx t).2.2.2.2.2.2.2.2.2.2.2⟩ := Fin.ext hb
  rw [block0, Tables.signal, hX]
  exact congrArg (fun n => ((X _ f n : ℝ) : EReal)) (by simp only; omega)

/-- What point `t` leaves for the first result. -/
theorem point9 (b : Fin 32) (hb : b.val = t.val) (i f : Fin 64) (j : Fin 128) :
    (k0_pay3 (k0_pay4 (iblk m c 0 t)) (k0_pay92 (F := Ideal) (iblk m c 0 t) (iblk m c 1 t) (iblk m c 2 t) (iblk m c 3 t) (iblk m c 4 t) (iblk m c 5 t) (iblk m c 6 t) (iblk m c 7 t) (iblk m c 8 t))
      (k0_pay93 (F := Ideal) (iblk m c 0 t) (iblk m c 1 t) (iblk m c 2 t) (iblk m c 3 t) (iblk m c 4 t) (iblk m c 5 t) (iblk m c 6 t) (iblk m c 7 t) (iblk m c 8 t)) : FVec Ideal S1x64x64x128 .f32) (ix4 0 i f j)
      = spread (Reference.main (m ((c.tc : Thread nD τ).loc main_arg0))) (ix4 b i f j) := by
  refine Eq.trans ?_ (Reference.main_at _ X hX b ⟨128 * i.val + j.val, time_lt i j⟩ f).symm
  exact Row.first_at _ _ _ _ _ _ _ _ _ (X b) (signal_at m c t X hX b hb) (fun a b => (block1 m c t a b).trans (Tables.first_table m c a b))
    (fun a b => (block2 m c t a b).trans (Tables.twist_cos m c a b)) (fun a b => (block3 m c t a b).trans (Tables.twist_sin m c a b))
    (fun a b => (block4 m c t a b).trans (Tables.second_table m c a b)) (fun a b => (block5 m c t a b).trans (Tables.third_table m c a b))
    (fun a b => (block6 m c t a b).trans (Tables.back_cos m c a b)) (fun a b => (block7 m c t a b).trans (Tables.back_sin m c a b))
    (fun a b => (block8 m c t a b).trans (Tables.last_table m c a b)) i f j

/-- What point `t` leaves for the second result. -/
theorem point10 (b : Fin 32) (hb : b.val = t.val) (i f : Fin 64) (j : Fin 128) :
    (k0_pay2 (k0_pay92 (F := Ideal) (iblk m c 0 t) (iblk m c 1 t) (iblk m c 2 t) (iblk m c 3 t) (iblk m c 4 t) (iblk m c 5 t) (iblk m c 6 t) (iblk m c 7 t) (iblk m c 8 t))
      (k0_pay93 (F := Ideal) (iblk m c 0 t) (iblk m c 1 t) (iblk m c 2 t) (iblk m c 3 t) (iblk m c 4 t) (iblk m c 5 t) (iblk m c 6 t) (iblk m c 7 t) (iblk m c 8 t)) : FVec Ideal S1x64x64x128 .f32) (ix4 0 i f j)
      = spread (Reference.seasonal (m ((c.tc : Thread nD τ).loc main_arg0))) (ix4 b i f j) := by
  refine Eq.trans ?_ (Reference.seasonal_at _ X hX b ⟨128 * i.val + j.val, time_lt i j⟩ f).symm
  exact Row.second_at _ _ _ _ _ _ _ _ _ (X b) (signal_at m c t X hX b hb) (fun a b => (block1 m c t a b).trans (Tables.first_table m c a b))
    (fun a b => (block2 m c t a b).trans (Tables.twist_cos m c a b)) (fun a b => (block3 m c t a b).trans (Tables.twist_sin m c a b))
    (fun a b => (block4 m c t a b).trans (Tables.second_table m c a b)) (fun a b => (block5 m c t a b).trans (Tables.third_table m c a b))
    (fun a b => (block6 m c t a b).trans (Tables.back_cos m c a b)) (fun a b => (block7 m c t a b).trans (Tables.back_sin m c a b))
    (fun a b => (block8 m c t a b).trans (Tables.last_table m c a b)) i f j

omit hX in
/-- Where index `y` of point `t`'s block of a result lies in the whole array. -/
theorem place (y : S1x64x64x128.Idx) : ((View.whole main_v64_0).slice (win0_9.rect t)).emb y
      = (ix4 ⟨t.val, (idx t).2.2.2.2.2.2.2.2.2.2.2⟩ (y 1) (y 2) (y 3) : S32x64x64x128.Idx)
    ∧ ((View.whole main_v64_1).slice (win0_10.rect t)).emb y
      = (ix4 ⟨t.val, (idx t).2.2.2.2.2.2.2.2.2.2.2⟩ (y 1) (y 2) (y 3) : S32x64x64x128.Idx)
    ∧ y = (ix4 0 (y 1) (y 2) (y 3) : S1x64x64x128.Idx) := by
  refine ⟨?_, ?_, ?_⟩ <;> blk_ext [idx t]

/-- The first result array after the launch is the reference's main part, spread out. -/
theorem final9 : (dats m 0 c).arrAt 9 (cfgs 0).N = spread (Reference.main (m ((c.tc : Thread nD τ).loc main_arg0))) := by
  refine (dats m 0 c).arrAt_eq_of_covers 9 _ (by decide +kernel) fun t _ y => ?_
  blk_simp
  rw [after0_9]
  frame_out
  obtain ⟨e, _, ey⟩ := place t y
  exact ((congrArg _ ey).trans (point9 m c t X hX _ rfl (y 1) (y 2) (y 3))).trans (congrArg _ e.symm)

/-- The second result array after the launch is the reference's seasonal part, spread out. -/
theorem final10 : (dats m 0 c).arrAt 10 (cfgs 0).N = spread (Reference.seasonal (m ((c.tc : Thread nD τ).loc main_arg0))) := by
  refine (dats m 0 c).arrAt_eq_of_covers 10 _ (by decide +kernel) fun t _ y => ?_
  blk_simp
  rw [after0_10]
  frame_out
  obtain ⟨_, e, ey⟩ := place t y
  exact ((congrArg _ ey).trans (point10 m c t X hX _ rfl (y 1) (y 2) (y 3))).trans (congrArg _ e.symm)

/-- After the last line the first result is the reference's main part. -/
theorem result0 : Pipeline.afterTail₀ cfgs (dats m) 0 (V0 m) [hostOps1] c main_v66 = Reference.main (m ((c.tc : Thread nD τ).loc main_arg0)) := by
  refine Eq.trans ?_ (unspread _)
  rw [← final9 m c X hX, ← Pipeline.withArrays_arr (cfgs 0).spec launch0.win.arr_inj c (V0 m c) (fun w => (dats m 0 c).arrAt w (cfgs 0).N) 9]
  unfold Pipeline.afterTail₀
  simp only [hostOps1, List.flatten_cons, List.flatten_nil, List.append_nil]
  after_results
  rfl

/-- After the last line the second result is the reference's seasonal part. -/
theorem result1 : Pipeline.afterTail₀ cfgs (dats m) 0 (V0 m) [hostOps1] c main_v68 = Reference.seasonal (m ((c.tc : Thread nD τ).loc main_arg0)) := by
  refine Eq.trans ?_ (unspread _)
  rw [← final10 m c X hX, ← Pipeline.withArrays_arr (cfgs 0).spec launch0.win.arr_inj c (V0 m c) (fun w => (dats m 0 c).arrAt w (cfgs 0).N) 10]
  unfold Pipeline.afterTail₀
  simp only [hostOps1, List.flatten_cons, List.flatten_nil, List.append_nil]
  after_results
  rfl

end Cert.Bridge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Lib.Claim
public import proofs.«01_k».proof.Proof.Bridge
public import Idealize.ShloMosaic.Adequacy
public import Idealize.ShloMosaic.Init

@[expose] public section

set_option maxRecDepth 16384

noncomputable section

namespace Cert.Proof

open Idealize.ShloMosaic Idealize.SL.Sem Cert.Kernel

/-- The precondition's one side condition: a single number spreads over the signal's shape. -/
theorem finite_facts : Cert.Pre_finite.Facts := ⟨by decide⟩

/-- An array of which the precondition holds has only real numbers. -/
theorem real_of_finite (h : Cert.Pre_finite.Facts) (x : FVec Ideal Cert.Pre_finite.S32x8192x64 .f32)
    (hx : Cert.Pre_finite.fn (F := Ideal) x = fun _ => 1#1) (i) : x i = (((x i : EReal).toReal : ℝ) : EReal) := by
  have e := congrFun hx i
  have e' : BitVec.ofBool (decide (max (x i : EReal) (-(x i : EReal)) < Ideal.ofBits .f32 0x7F800000#32)) = 1#1 := e
  rw [Cert.Lift.bits_top] at e'
  have lt : max (x i : EReal) (-(x i : EReal)) < ⊤ := by
    by_contra hn
    rw [decide_eq_false hn] at e'
    exact absurd e' (by decide)
  have top : (x i : EReal) ≠ ⊤ := fun h => by rw [h] at lt; exact absurd (le_max_left _ _) (not_le.2 lt)
  have bot : (x i : EReal) ≠ ⊥ := fun h => by rw [h, EReal.neg_bot] at lt; exact absurd (le_max_right _ _) (not_le.2 lt)
  exact (EReal.coe_toReal top bot).symm

/-- Such an array is a family of real signals, one for every row and channel. -/
theorem real_signal (h : Cert.Pre_finite.Facts) (x : FVec Ideal Cert.Pre_finite.S32x8192x64 .f32)
    (hx : Cert.Pre_finite.fn (F := Ideal) x = fun _ => 1#1) :
    ∃ X : Fin 32 → Fin 64 → ℕ → ℝ, ∀ (b : Fin 32) (s : Fin 8192) (f : Fin 64), x (ix3 b s f) = ((X b f s.val : ℝ) : EReal) :=
  ⟨fun b f n => if h : n < 8192 then (x (ix3 b ⟨n, h⟩ f) : EReal).toReal else 0, fun b s f => by
    show _ = (((if h : s.val < 8192 then (x (ix3 b ⟨s.val, h⟩ f) : EReal).toReal else 0 : ℝ)) : EReal)
    rw [dif_pos s.isLt]
    exact real_of_finite h x hx _⟩

/-- The reference runs, leaves its argument alone and has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    letI := Cert.ReferenceIdeal.Gen.facts
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2.2, sem_eq_zero_of_no_sems (by decide) r.2⟩)
    (Cert.ReferenceIdeal.Value.run (F := Ideal) m g)

set_option maxHeartbeats 4000000 in
/-- Over the reals the kernel computes the reference. -/
theorem values : @Cert.algebraic_KernelIdeal_ReferenceIdeal_pre_finite Cert.KernelIdeal.Gen.facts Cert.ReferenceIdeal.Gen.facts finite_facts := by
  pair_intro
  · run_from Cert.KernelIdeal.Gen.run_main m g
    exact Cert.KernelIdeal.Gen.V_main_arg0 m c
  · refine (θ_run _ _ _).mono (fun r h c => ?_) (Cert.ReferenceIdeal.Value.run m' g')
    obtain ⟨X, hX⟩ := real_signal finite_facts _ (hpre c)
    refine ⟨(h c).1.trans ?_, (h c).2.1.trans ?_, (h c).2.2⟩
    · refine Eq.trans ?_ (Cert.Bridge.result0 m c X hX).symm
      refine (Cert.Reference.out0_eq m' c).trans ?_
      exact congrArg Cert.Reference.main (hagree c)
    · refine Eq.trans ?_ (Cert.Bridge.result1 m c X hX).symm
      refine (Cert.Reference.out1_eq m' c).trans ?_
      exact congrArg Cert.Reference.seasonal (hagree c)

/-- Every claim of the certificate. -/
theorem claim : Cert.Claim := ⟨Cert.Kernel.Gen.facts, Cert.KernelIdeal.Gen.facts, Cert.ReferenceIdeal.Gen.facts, finite_facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ, trivial, values⟩

end Cert.Proof

end
